-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S2x2048x1024 : Shape := ⟨3, ![2, 2048, 1024]⟩
abbrev S2x2048 : Shape := ⟨2, ![2, 2048]⟩
abbrev S1024x1024 : Shape := ⟨2, ![1024, 1024]⟩
abbrev S1024 : Shape := ⟨1, ![1024]⟩
abbrev S2x16x2048x64 : Shape := ⟨4, ![2, 16, 2048, 64]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v12 main_v16
  let main_v18 : FVec F S1024x1024 .f32 := Host.absf main_arg4
  let main_cst_6 : FVec F S_ .f32 := constant S_ .f32 0x7F800000#32
  let main_v19 : FVec F S1024x1024 .f32 := broadcastInDim S1024x1024 ![] bcast_S_S1024x1024 main_cst_6
  let main_v20 : IVec S1024x1024 1 := cmpf .olt main_v18 main_v19
  let main_c_7 : IVec S_ 1 := constantI S_ 1 1#1
  let main_v21 : IVec S_ 1 := (fun x v => Host.reduce IntOp.andi x v reducesTo_S1024x1024_S_d0_1 h_S_) main_v20 main_c_7
  let main_v22 : IVec S_ 1 := andi main_v17 main_v21
  let main_v23 : FVec F S1024 .f32 := Host.absf main_arg5
  let main_cst_8 : FVec F S_ .f32 := constant S_ .f32 0x7F800000#32
  let main_v24 : FVec F S1024 .f32 := broadcastInDim S1024 ![] bcast_S_S1024 main_cst_8
  let main_v25 : IVec S1024 1 := cmpf .olt main_v23 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v22 main_v26
  main_v27

def fn {F : FTy → Type} [FloatOps F] (main_arg0 : FVec F S2x2048x1024 .f32) (main_arg1 : FVec F S2x2048 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S2x16x2048x64 .f32) (main_arg11 : FVec F S2x16x2048x64 .f32) : IVec S_ 1 :=
  let main_cst : FVec F S_ .f32 := constant S_ .f32 0x3F800000#32
  let main_v0 : FVec F S2x2048 .f32 := broadcastInDim S2x2048 ![] bcast_S_S2x2048 main_cst
  let main_v1 : IVec S2x2048 1 := cmpf .oeq main_arg1 main_v0
  let main_c : IVec S_ 1 := constantI S_ 1 1#1
  let main_v2 : IVec S_ 1 := (fun x v => Host.reduce IntOp.andi x v reducesTo_S2x2048_S_d0_1 h_S_) main_v1 main_c
  let main_v3 : FVec F S2x2048x1024 .f32 := Host.absf main_arg0
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_c_1 : IVec S_ 1 := constantI S_ 1 1#1
  let main_v6 : IVec S_ 1 := (fun x v => Host.reduce IntOp.andi x v reducesTo_S2x2048x1024_S_d0_1_2 h_S_) main_v5 main_c_1
  let main_v7 : IVec S_ 1 := andi main_v2 main_v6
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v7 main_v11
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_arg5 main_v12 main_v15 main_c_5
-- ==== Kernel.lean ====
abbrev S2x2048x1024 : Shape := ⟨3, ![2, 2048, 1024]⟩
abbrev S2x2048 : Shape := ⟨2, ![2, 2048]⟩
abbrev S1024x1024 : Shape := ⟨2, ![1024, 1024]⟩
abbrev S1024 : Shape := ⟨1, ![1024]⟩
abbrev S2x16x2048x64 : Shape := ⟨4, ![2, 16, 2048, 64]⟩
abbrev S4096x1024 : Shape := ⟨2, ![4096, 1024]⟩
abbrev S1x1024 : Shape := ⟨2, ![1, 1024]⟩
abbrev S512x1024 : Shape := ⟨2, ![512, 1024]⟩
abbrev S1x16x512x64 : Shape := ⟨4, ![1, 16, 512, 64]⟩
abbrev S256x1024 : Shape := ⟨2, ![256, 1024]⟩
abbrev S512x256 : Shape := ⟨2, ![512, 256]⟩
abbrev S1x256 : Shape := ⟨2, ![1, 256]⟩
abbrev S512x64 : Shape := ⟨2, ![512, 64]⟩
abbrev S1x1x512x64 : Shape := ⟨4, ![1, 1, 512, 64]⟩
abbrev S1x1x2048x64 : Shape := ⟨4, ![1, 1, 2048, 64]⟩
abbrev S2x256x2048 : Shape := ⟨3, ![2, 256, 2048]⟩
abbrev S256x256 : Shape := ⟨2, ![256, 256]⟩
abbrev S1x1x256x64 : Shape := ⟨4, ![1, 1, 256, 64]⟩
abbrev S256x64 : Shape := ⟨2, ![256, 64]⟩
abbrev S256 : Shape := ⟨1, ![256]⟩
abbrev S256x1 : Shape := ⟨2, ![256, 1]⟩
abbrev S1x256x256 : Shape := ⟨3, ![1, 256, 256]⟩
abbrev S256x512 : Shape := ⟨2, ![256, 512]⟩
abbrev S1x256x512 : Shape := ⟨3, ![1, 256, 512]⟩
abbrev S1x512x1024 : Shape := ⟨3, ![1, 512, 1024]⟩
abbrev S1x512x256 : Shape := ⟨3, ![1, 512, 256]⟩

abbrev nBuf : Space → Nat
  | .hbm => 22
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2x16x2048x64, .f32⟩
  | .hbm, ⟨11, _⟩ => ⟨S2x16x2048x64, .f32⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S2x16x2048x64, .f32⟩
  | .hbm, ⟨17, _⟩ => ⟨S2x16x2048x64, .f32⟩
  | .hbm, ⟨18, _⟩ => ⟨S2x16x2048x64, .f32⟩
  | .hbm, ⟨19, _⟩ => ⟨S2x16x2048x64, .f32⟩
  | .hbm, ⟨20, _⟩ => ⟨S1x1024, .f32⟩
  | .hbm, ⟨21, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x16x512x64, .f32⟩
  | .local _ .vmem, ⟨9, _⟩ => ⟨S1x16x512x64, .f32⟩
  | .local _ .vmem, ⟨10, _⟩ => ⟨S1x16x512x64, .f32⟩
  | .local _ .vmem, ⟨11, _⟩ => ⟨S1x16x512x64, .f32⟩
  | .local _ .vmem, ⟨12, _⟩ => ⟨S1x16x512x64, .f32⟩
  | .local _ .vmem, ⟨13, _⟩ => ⟨S1x16x512x64, .f32⟩
  | .local _ .vmem, ⟨14, _⟩ => ⟨S1x1x2048x64, .f32⟩
  | .local _ .vmem, ⟨15, _⟩ => ⟨S1x1x2048x64, .f32⟩
  | .local _ .vmem, ⟨16, _⟩ => ⟨S1x1x2048x64, .f32⟩
  | .local _ .vmem, ⟨17, _⟩ => ⟨S1x1x2048x64, .f32⟩
  | .local _ .vmem, ⟨18, _⟩ => ⟨S1x1x2048x64, .f32⟩
  | .local _ .vmem, ⟨19, _⟩ => ⟨S1x1x2048x64, .f32⟩
  | .local _ .vmem, ⟨20, _⟩ => ⟨S1x1x2048x64, .f32⟩
  | .local _ .vmem, ⟨21, _⟩ => ⟨S1x1x2048x64, .f32⟩
  | .local _ .vmem, ⟨22, _⟩ => ⟨S2x256x2048, .f32⟩
  | .local _ .vmem, ⟨23, _⟩ => ⟨S1x16x512x64, .f32⟩
  | .local _ .vmem, ⟨24, _⟩ => ⟨S1x16x512x64, .f32⟩
  | .local _ .vmem, ⟨25, _⟩ => ⟨S1024x1024, .f32⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_1 (i : grid1.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_2 (i : grid1.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_3 (i : grid1.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage1_0 : Fin 2 → Memref sig .tc .vmem S1x1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage2_0 : Fin 2 → Memref sig .tc .vmem S1x16x512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S2x2048x1024 : Shape := ⟨3, ![2, 2048, 1024]⟩
abbrev S2x2048 : Shape := ⟨2, ![2, 2048]⟩
abbrev S1024x1024 : Shape := ⟨2, ![1024, 1024]⟩
abbrev S1024 : Shape := ⟨1, ![1024]⟩
abbrev S2x16x2048x64 : Shape := ⟨4, ![2, 16, 2048, 64]⟩
abbrev S0 : Shape := ⟨1, ![0]⟩
abbrev S1x1x1024 : Shape := ⟨3, ![1, 1, 1024]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048x2048 : Shape := ⟨2, ![2048, 2048]⟩
abbrev S1x2048x2048 : Shape := ⟨3, ![1, 2048, 2048]⟩
abbrev S2x1x2048 : Shape := ⟨3, ![2, 1, 2048]⟩
abbrev S2x2048x2048 : Shape := ⟨3, ![2, 2048, 2048]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2x16x2048x64, .f32⟩
  | .hbm, ⟨11, _⟩ => ⟨S2x16x2048x64, .f32⟩
  | .hbm, ⟨12, _⟩ => ⟨S0, .i32⟩
  | .hbm, ⟨13, _⟩ => ⟨S0, .i32⟩
  | .hbm, ⟨14, _⟩ => ⟨S1024x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S1024x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x16x64, .f32⟩
  | .hbm, ⟨27, _⟩ => ⟨S2x16x2048x64, .f32⟩
  | .hbm, ⟨28, _⟩ => ⟨S1024x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S2x2048x16x64, .f32⟩
  | .hbm, ⟨34, _⟩ => ⟨S2x16x2048x64, .f32⟩
  | .hbm, ⟨35, _⟩ => ⟨S2x16x2048x64, .f32⟩
  | .hbm, ⟨36, _⟩ => ⟨S2x16x2048x64, .f32⟩
  | .hbm, ⟨37, _⟩ => ⟨S2x16x2048x2048, .f32⟩
  | .hbm, ⟨38, _⟩ => ⟨S_, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2048x2048, .f32⟩
  | .hbm, ⟨43, _⟩ => ⟨S2048x2048, .i32⟩
  | .hbm, ⟨44, _⟩ => ⟨S_, .i32⟩
  | .hbm, ⟨45, _⟩ => ⟨S2048x2048, .i32⟩
  | .hbm, ⟨46, _⟩ => ⟨S2048x2048, .i32⟩
  | .hbm, ⟨47, _⟩ => ⟨S2048x2048, .i32⟩
  | .hbm, ⟨48, _⟩ => ⟨S2048x2048, .i1⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S1x2048x2048, .f32⟩
  | .hbm, ⟨53, _⟩ => ⟨S2x1x2048, .f32⟩
  | .hbm, ⟨54, _⟩ => ⟨S2x2048x2048, .f32⟩
  | .hbm, ⟨55, _⟩ => ⟨S2x2048x2048, .f32⟩
  | .hbm, ⟨56, _⟩ => ⟨S2x2048x2048, .f32⟩
  | .hbm, ⟨57, _⟩ => ⟨S2x1x2048x2048, .f32⟩
  | .hbm, ⟨58, _⟩ => ⟨S_, .f32⟩
  | .hbm, ⟨59, _⟩ => ⟨S2x1x2048x2048, .f32⟩
  | .hbm, ⟨60, _⟩ => ⟨S2x1x2048x2048, .i1⟩
  | .hbm, ⟨61, _⟩ => ⟨S_, .f32⟩
  | .hbm, ⟨62, _⟩ => ⟨S_, .f32⟩
  | .hbm, ⟨63, _⟩ => ⟨S2x16x2048x2048, .i1⟩
  | .hbm, ⟨64, _⟩ => ⟨S2x16x2048x2048, .f32⟩
  | .hbm, ⟨65, _⟩ => ⟨S2x16x2048x2048, .f32⟩
  | .hbm, ⟨66, _⟩ => ⟨S_, .f32⟩
  | .hbm, ⟨67, _⟩ => ⟨S2x16x2048, .f32⟩
  | .hbm, ⟨68, _⟩ => ⟨S_, .f32⟩
  | .hbm, ⟨69, _⟩ => ⟨S2x16x2048, .f32⟩
  | .hbm, ⟨70, _⟩ => ⟨S2x16x2048, .f32⟩
  | .hbm, ⟨71, _⟩ => ⟨S2x16x2048x1, .f32⟩
  | .hbm, ⟨72, _⟩ => ⟨S2x16x2048x2048, .f32⟩
  | .hbm, ⟨73, _⟩ => ⟨S2x16x2048x2048, .f32⟩
  | .hbm, ⟨74, _⟩ => ⟨S2x16x2048x2048, .f32⟩
  | .hbm, ⟨75, _⟩ => ⟨S_, .f32⟩
  | .hbm, ⟨76, _⟩ => ⟨S2x16x2048, .f32⟩
  | .hbm, ⟨77, _⟩ => ⟨S2x16x2048x1, .f32⟩
  | .hbm, ⟨78, _⟩ => ⟨S2x16x2048x2048, .f32⟩
  | .hbm, ⟨79, _⟩ => ⟨S2x16x2048x2048, .f32⟩
  | .hbm, ⟨80, _⟩ => ⟨S2x16x2048x64, .f32⟩
  | .hbm, ⟨81, _⟩ => ⟨S2x2048x16x64, .f32⟩
  | .hbm, ⟨82, _⟩ => ⟨S2x2048x1024, .f32⟩
  | .hbm, ⟨83, _⟩ => ⟨S1024x1024, .f32⟩
  | .hbm, ⟨84, _⟩ => ⟨S2x2048x1024, .f32⟩
  | .hbm, ⟨85, _⟩ => ⟨S1x1x1024, .f32⟩
  | .hbm, ⟨86, _⟩ => ⟨S2x2048x1024, .f32⟩
  | .hbm, ⟨87, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_cst : Ref sig .tc := ⟨.hbm, 49, rfl⟩
abbrev main_call0_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_2 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v36 : Ref sig .tc := ⟨.hbm, 65, rfl⟩
abbrev main_cst_4 : Ref sig .tc := ⟨.hbm, 66, rfl⟩
abbrev main_v37 : Ref sig .tc := ⟨.hbm, 67, rfl⟩
abbrev main_cst_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩

abbrev nD : Nat := 1
abbrev τ : Topo := Topo.v7x

variable {F : FTy → Type} [FloatOps F]
-- ==== Proof.Block0.lean ====
module
public import proofs.«01_k».proof.Proof.Gen.KernelIdeal.Frame
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- One block of a projection: 512 rows of the input against a weight matrix, plus the bias, split
    into 16 heads of 64 columns. -/
def projBlk (X : Vec Ideal S512x1024 .f32) (W : Vec Ideal S1024x1024 .f32) (B : Vec Ideal S1x1024 .f32)
    (h : Fin 16) (r : Fin 512) (d : Fin 64) : EReal :=
  (∑ e : Fin 1024, X (ix2 r e) * W (ix2 ⟨64 * h + d, by omega⟩ e)) + B (ix2 0 ⟨64 * h + d, by omega⟩)

/-- One block of a projection, computed in four column groups, entry by entry. -/
theorem pb_eq (X : Vec Ideal S512x1024 .f32) (W : Vec Ideal S1024x1024 .f32) (B : Vec Ideal S1x1024 .f32)
    (h : Fin 16) (r : Fin 512) (d : Fin 64) (r' : Fin 512) (n : Fin 1024) (hr : (r : ℕ) = r') (hn : (n : ℕ) = 64 * h + d) :
    (∑ e : Fin 1024, X (ix2 r' e) * W (ix2 n e)) + B (ix2 0 n) = projBlk X W B h r d := by
  obtain rfl := Fin.ext hr
  rw [show n = ⟨64 * h + d, by omega⟩ from Fin.ext hn]
  rfl

set_option maxHeartbeats 1600000 in
/-- What one step of the first launch writes of the queries. -/
theorem out0_7_at (X : Vec Ideal S512x1024 .f32) (W1 W2 W3 : Vec Ideal S1024x1024 .f32) (B1 B2 B3 : Vec Ideal S1x1024 .f32) (y) :
    out0_7 X W1 W2 W3 B1 B2 B3 y = projBlk X W1 B1 (y 1) (y 2) (y 3) := by
  unfold out0_7
  frame_open
  frame_out
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, r0_0, r0_1, r0_10, r0_11, r0_12, r0_13, r0_14, r0_15, r0_16, r0_17, r0_18, r0_19, r0_2, r0_20, r0_21, r0_22, r0_23, r0_24, r0_3, r0_4, r0_5, r0_6, r0_7, r0_8, r0_9]
    exact pb_eq _ _ _ _ _ _ _ _ (by omega) (by dsimp only; omega)
set_option maxHeartbeats 1600000 in
/-- What one step of the first launch writes of the keys. -/
theorem out0_8_at (X : Vec Ideal S512x1024 .f32) (W1 W2 W3 : Vec Ideal S1024x1024 .f32) (B1 B2 B3 : Vec Ideal S1x1024 .f32) (y) :
    out0_8 X W1 W2 W3 B1 B2 B3 y = projBlk X W2 B2 (y 1) (y 2) (y 3) := by
  unfold out0_8
  frame_open

  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, r0_0, r0_1, r0_10, r0_11, r0_12, r0_13, r0_14, r0_15, r0_16, r0_17, r0_18, r0_19, r0_2, r0_20, r0_21, r0_22, r0_23, r0_24, r0_3, r0_4, r0_5, r0_6, r0_7, r0_8, r0_9]
    exact pb_eq _ _ _ _ _ _ _ _ (by omega) (by dsimp only; omega)
set_option maxHeartbeats 1600000 in
/-- What one step of the first launch writes of the values. -/
theorem out0_9_at (X : Vec Ideal S512x1024 .f32) (W1 W2 W3 : Vec Ideal S1024x1024 .f32) (B1 B2 B3 : Vec Ideal S1x1024 .f32) (y) :
    out0_9 X W1 W2 W3 B1 B2 B3 y = projBlk X W3 B3 (y 1) (y 2) (y 3) := by
  unfold out0_9
  frame_open

  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, r0_0, r0_1, r0_10, r0_11, r0_12, r0_13, r0_14, r0_15, r0_16, r0_17, r0_18, r0_19, r0_2, r0_20, r0_21, r0_22, r0_23, r0_24, r0_3, r0_4, r0_5, r0_6, r0_7, r0_8, r0_9]
    exact pb_eq _ _ _ _ _ _ _ _ (by omega) (by dsimp only; omega)
end Cert.KernelIdeal.Value
end
-- ==== Proof.TileOps.lean ====
module
public import proofs.«01_k».proof.Proof.Gen.KernelIdeal.Skeleton
public import Idealize.ShloMosaic.Lib.Pipeline.ValueKit
public import Idealize.ShloMosaic.Lib.WordCmp
@[expose] public section
set_option maxRecDepth 16384
noncomputable section
open Idealize.ShloMosaic Idealize.ShloMosaic.TcCoe Idealize.SL.Sem
namespace Cert.KernelIdeal.Value
open Cert.KernelIdeal Cert.KernelIdeal.Gen

/-- The scale the kernel multiplies its queries by, as an extended real: `(1/8) / log 2`. -/
def cq : EReal := ((((1 / 8) * (Real.log 2)⁻¹ : ℝ)) : EReal)

/-- One tile of queries, scaled. -/
def qs (q : Vec Ideal S1x1x256x64 .f32) : FVec Ideal S256x64 .f32 :=
  mulf (shapeCast S256x64 q shapeCasts_S1x1x256x64_S256x64) (broadcast S256x64 (Named.named (F := Ideal) κ "qscale" 0x3E38AA3B#32))
/-- Scores of a tile of queries against 256 keys. -/
def sc256 (a : FVec Ideal S256x64 .f32) (k : Vec Ideal S1x1x256x64 .f32) : FVec Ideal S256x256 .f32 :=
  matmul dot_S256x64_S256x64_S256x256_1_1_0_0_n_n none a (shapeCast S256x64 k shapeCasts_S1x1x256x64_S256x64 : FVec Ideal S256x64 .f32) (constant S256x256 .f32 0x00000000#32)
/-- Scores of a tile of queries against 512 keys. -/
def sc512 (a : FVec Ideal S256x64 .f32) (k : Vec Ideal S1x1x512x64 .f32) : FVec Ideal S256x512 .f32 :=
  matmul dot_S256x64_S512x64_S256x512_1_1_0_0_n_n none a (shapeCast S512x64 k shapeCasts_S1x1x512x64_S512x64 : FVec Ideal S512x64 .f32) (constant S256x512 .f32 0x00000000#32)
/-- Scores of a tile of queries against the keys of the same tile, the later keys masked. -/
def dg (a : FVec Ideal S256x64 .f32) (k : Vec Ideal S1x1x256x64 .f32) : FVec Ideal S256x256 .f32 :=
  select k1_pay1 (sc256 a k) (broadcast S256x256 (Scalar.ofBits (F := Ideal) .f32 0xFF800000#32))
/-- A block of scores stored to the scratch and loaded again. -/
def rt256 (s : FVec Ideal S256x256 .f32) : FVec Ideal S256x256 .f32 :=
  shapeCast S256x256 (shapeCast S1x256x256 s shapeCasts_S256x256_S1x256x256) shapeCasts_S1x256x256_S256x256
def rt512 (s : FVec Ideal S256x512 .f32) : FVec Ideal S256x512 .f32 :=
  shapeCast S256x512 (shapeCast S1x256x512 s shapeCasts_S256x512_S1x256x512) shapeCasts_S1x256x512_S256x512
/-- Row maxima. -/
def mx256 (s : FVec Ideal S256x256 .f32) : FVec Ideal S256x1 .f32 :=
  shapeCast S256x1 (multiReduction .maximumf [1] S256 s 0xFF800000#32 reduces_S256x256_S256 (.inl rfl) rfl) shapeCasts_S256_S256x1
def mx512 (s : FVec Ideal S256x512 .f32) : FVec Ideal S256x1 .f32 :=
  shapeCast S256x1 (multiReduction .maximumf [1] S256 s 0xFF800000#32 reduces_S256x512_S256 (.inl rfl) rfl) shapeCasts_S256_S256x1
/-- Exponentials of the scores less the row maximum. -/
def pe256 (s : FVec Ideal S256x256 .f32) (m : FVec Ideal S256x1 .f32) : FVec Ideal S256x256 .f32 :=
  exp2 (subf s (broadcastTo S256x256 m broadcasts_S256x1_S256x256))
def pe512 (s : FVec Ideal S256x512 .f32) (m : FVec Ideal S256x1 .f32) : FVec Ideal S256x512 .f32 :=
  exp2 (subf s (broadcastTo S256x512 m broadcasts_S256x1_S256x512))
/-- Row sums. -/
def sm256 (p : FVec Ideal S256x256 .f32) : FVec Ideal S256x1 .f32 :=
  shapeCast S256x1 (multiReduction .add [1] S256 p 0x00000000#32 reduces_S256x256_S256 (.inl rfl) rfl) shapeCasts_S256_S256x1
def sm512 (p : FVec Ideal S256x512 .f32) : FVec Ideal S256x1 .f32 :=
  shapeCast S256x1 (multiReduction .add [1] S256 p 0x00000000#32 reduces_S256x512_S256 (.inl rfl) rfl) shapeCasts_S256_S256x1
/-- Weights times values. -/
def pv256 (p : FVec Ideal S256x256 .f32) (v : Vec Ideal S1x1x256x64 .f32) : FVec Ideal S256x64 .f32 :=
  matmul dot_S256x256_S256x64_S256x64_1_0_0_1_n_n none p (shapeCast S256x64 v shapeCasts_S1x1x256x64_S256x64 : FVec Ideal S256x64 .f32) (constant S256x64 .f32 0x00000000#32)
def pv512 (p : FVec Ideal S256x512 .f32) (v : Vec Ideal S1x1x512x64 .f32) : FVec Ideal S256x64 .f32 :=
  matmul dot_S256x512_S512x64_S256x64_1_0_0_1_n_n none p (shapeCast S512x64 v shapeCasts_S1x1x512x64_S512x64 : FVec Ideal S512x64 .f32) (constant S256x64 .f32 0x00000000#32)
/-- The quotient a tile stores. -/
def fin (acc : FVec Ideal S256x64 .f32) (l : FVec Ideal S256x1 .f32) : FVec Ideal S1x1x256x64 .f32 :=
  shapeCast S1x1x256x64 (divf acc (broadcastTo S256x64 l broadcasts_S256x1_S256x64)) shapeCasts_S256x64_S1x1x256x64

/-- The word the kernel masks with is minus infinity. -/
theorem ninf : Ideal.ofBits .f32 0xFF800000#32 = ⊥ := by
  simp [Ideal.ofBits, Ideal.ieee]

/-- The scaled queries of a tile. -/
theorem qs_at (q) (r : Fin 256) (d : Fin 64) : qs q (ix2 r d) = q (ix4 0 0 r d) * cq := by
  pointwise [qs]; rfl
/-- Scores of a tile against 256 keys. -/
theorem sc256_at (a k) (r : Fin 256) (c : Fin 256) : sc256 a k (ix2 r c) = ∑ d : Fin 64, a (ix2 r d) * k (ix4 0 0 c d) := by
  pointwise [sc256]
/-- Scores of a tile against 512 keys. -/
theorem sc512_at (a k) (r : Fin 256) (c : Fin 512) : sc512 a k (ix2 r c) = ∑ d : Fin 64, a (ix2 r d) * k (ix4 0 0 c d) := by
  pointwise [sc512]
/-- Scores of a tile on the diagonal: minus infinity above it. -/
theorem dg_at (a k) (r c : Fin 256) : dg a k (ix2 r c) = if (c : ℕ) ≤ r then ∑ d : Fin 64, a (ix2 r d) * k (ix4 0 0 c d) else ⊥ := by
  pointwise [dg, k1_pay1, sc256_at]
  have hr := r.isLt
  have hc := c.isLt
  simp (disch := omega) only [hlo_ix]
  rw [ninf]
/-- Writing 256 columns of scores to scratch and reading them again changes nothing. -/
theorem rt256_eq (s) : rt256 s = s := by
  funext j; idx_vars j; pointwise [rt256]
/-- The same of 512 columns. -/
theorem rt512_eq (s) : rt512 s = s := by
  funext j; idx_vars j; pointwise [rt512]
/-- The row maxima over 256 columns. -/
theorem mx256_at (s) (r : Fin 256) : mx256 s (ix2 r 0) = Finset.univ.sup (fun c : Fin 256 => s (ix2 r c)) := by
  pointwise [mx256]
  rw [ninf]; rfl
/-- The row maxima over 512 columns. -/
theorem mx512_at (s) (r : Fin 256) : mx512 s (ix2 r 0) = Finset.univ.sup (fun c : Fin 512 => s (ix2 r c)) := by
  pointwise [mx512]
  rw [ninf]; rfl
/-- Powers of two of scores less the row maximum, 256 columns. -/
theorem pe256_at (s m) (r c : Fin 256) : pe256 s m (ix2 r c) = Ideal.exp2 (s (ix2 r c) - m (ix2 r 0)) := by
  pointwise [pe256]; rfl
/-- Powers of two of scores less the row maximum, 512 columns. -/
theorem pe512_at (s m) (r : Fin 256) (c : Fin 512) : pe512 s m (ix2 r c) = Ideal.exp2 (s (ix2 r c) - m (ix2 r 0)) := by
  pointwise [pe512]; rfl
/-- Row sums over 256 columns. -/
theorem sm256_at (p) (r : Fin 256) : sm256 p (ix2 r 0) = ∑ c : Fin 256, p (ix2 r c) := by
  pointwise [sm256]
/-- Row sums over 512 columns. -/
theorem sm512_at (p) (r : Fin 256) : sm512 p (ix2 r 0) = ∑ c : Fin 512, p (ix2 r c) := by
  pointwise [sm512]
/-- Weights against the values of 256 keys. -/
theorem pv256_at (p v) (r : Fin 256) (d : Fin 64) : pv256 p v (ix2 r d) = ∑ c : Fin 256, p (ix2 r c) * v (ix4 0 0 c d) := by
  pointwise [pv256]
/-- Weights against the values of 512 keys. -/
theorem pv512_at (p v) (r : Fin 256) (d : Fin 64) : pv512 p v (ix2 r d) = ∑ c : Fin 512, p (ix2 r c) * v (ix4 0 0 c d) := by
  pointwise [pv512]
/-- The division at the end of a tile. -/
theorem fin_at (acc l) (r : Fin 256) (d : Fin 64) : fin acc l (ix4 0 0 r d) = Ideal.div (acc (ix2 r d)) (l (ix2 r 0)) := by
  pointwise [fin]
end Cert.KernelIdeal.Value
end
-- ==== Proof.RowSum.lean ====
module
public import Idealize.ShloMosaic.Lib.Pipeline.ValueKit
@[expose] public section
noncomputable section
open Idealize.ShloMosaic
namespace Cert.RowSum

/-- Two to the minus infinity is zero. -/
theorem exp2_bot : Ideal.exp2 ⊥ = 0 := rfl
/-- Minus infinity less anything is minus infinity. -/
theorem bot_sub (M : EReal) : (⊥ : EReal) - M = ⊥ := by
  rw [sub_eq_add_neg]; exact EReal.bot_add _

/-- A sum over one block of a row is a sum over a range. -/
theorem chunk_sum (n o : ℕ) (F : ℕ → EReal) :
    ∑ c : Fin n, F (o + c) = ∑ t ∈ Finset.range n, F (o + t) :=
  Fin.sum_univ_eq_sum_range (fun t => F (o + t)) n

/-- A maximum over one block of a row is a maximum over a range. -/
theorem chunk_sup (n o : ℕ) (F : ℕ → EReal) :
    Finset.univ.sup (fun c : Fin n => F (o + c)) = (Finset.range n).sup (fun t => F (o + t)) := by
  apply le_antisymm
  · refine Finset.sup_le fun c _ => ?_
    exact Finset.le_sup (f := fun t => F (o + t)) (Finset.mem_range.2 c.isLt)
  · refine Finset.sup_le fun t ht => ?_
    exact Finset.le_sup (f := fun c : Fin n => F (o + c)) (Finset.mem_univ (⟨t, Finset.mem_range.1 ht⟩ : Fin n))

/-- The maximum over a longer range is the maximum of the two parts. -/
theorem sup_range_add (F : ℕ → EReal) (n m : ℕ) :
    (Finset.range (n + m)).sup F = max ((Finset.range n).sup F) ((Finset.range m).sup fun t => F (n + t)) := by
  apply le_antisymm
  · refine Finset.sup_le fun t ht => ?_
    by_cases h : t < n
    · exact le_max_of_le_left (Finset.le_sup (f := F) (Finset.mem_range.2 h))
    · refine le_max_of_le_right ?_
      have := Finset.le_sup (f := fun t => F (n + t)) (Finset.mem_range.2 (show t - n < m by have := Finset.mem_range.1 ht; omega))
      simpa only [show n + (t - n) = t by omega] using this
  · refine max_le (Finset.sup_le fun t ht => ?_) (Finset.sup_le fun t ht => ?_)
    · exact Finset.le_sup (f := F) (Finset.mem_range.2 (by have := Finset.mem_range.1 ht; omega))
    · exact Finset.le_sup (f := F) (Finset.mem_range.2 (by have := Finset.mem_range.1 ht; omega))

/-- Minus infinity beyond the first `a` places: the maximum is over those. -/
theorem sup_cut (F : ℕ → EReal) {a : ℕ} (b : ℕ) (h : ∀ t, a ≤ t → F t = ⊥) :
    (Finset.range (a + b)).sup F = (Finset.range a).sup F := by
  rw [sup_range_add]
  refine max_eq_left ?_
  refine Finset.sup_le fun t _ => ?_
  rw [h _ (by omega)]; exact bot_le

/-- Zero beyond the first `a` places: the sum is over those. -/
theorem sum_cut (F : ℕ → EReal) {a : ℕ} (b : ℕ) (h : ∀ t, a ≤ t → F t = 0) :
    ∑ t ∈ Finset.range (a + b), F t = ∑ t ∈ Finset.range a, F t := by
  rw [Finset.sum_range_add, Finset.sum_eq_zero (s := Finset.range b) (fun t _ => h _ (by omega)), add_zero]

/-- One row of attention over 2048 keys: scores `z`, values `w`. -/
def rowAtt (z w : ℕ → EReal) : EReal :=
  Ideal.div (∑ t ∈ Finset.range 2048, Ideal.exp2 (z t - (Finset.range 2048).sup z) * w t)
    (∑ t ∈ Finset.range 2048, Ideal.exp2 (z t - (Finset.range 2048).sup z))

/-- The row over the first `a` keys only, the others being masked. -/
theorem rowAtt_cut (z w : ℕ → EReal) {a : ℕ} (b : ℕ) (hab : a + b = 2048) (h : ∀ t, a ≤ t → z t = ⊥) :
    rowAtt z w = Ideal.div (∑ t ∈ Finset.range a, Ideal.exp2 (z t - (Finset.range a).sup z) * w t)
      (∑ t ∈ Finset.range a, Ideal.exp2 (z t - (Finset.range a).sup z)) := by
  unfold rowAtt
  rw [← hab, sup_cut z b h, sum_cut _ b (fun t ht => by rw [h t ht, bot_sub, exp2_bot, zero_mul]),
    sum_cut _ b (fun t ht => by rw [h t ht, bot_sub, exp2_bot])]

end Cert.RowSum
end
-- ==== Proof.Tile.lean ====
module
public import proofs.«01_k».proof.Proof.TileOps
public import proofs.«01_k».proof.Proof.RowSum
@[expose] public section
set_option maxRecDepth 16384
noncomputable section
open Idealize.ShloMosaic Idealize.ShloMosaic.TcCoe Idealize.SL.Sem
namespace Cert.KernelIdeal.Value
open Cert.KernelIdeal Cert.KernelIdeal.Gen Cert.RowSum

/-- A sum of arrays, entry by entry. -/
theorem addf_at' {s : Shape} (x y : FVec Ideal s .f32) (i) : addf x y i = x i + y i := rfl
/-- The first summand moved to the end, of two. -/
theorem rot1 (d a : EReal) : d + a = a + d := add_comm _ _
/-- The first summand moved to the end, of three. -/
theorem rot2 (d a b : EReal) : d + a + b = a + b + d := by ac_rfl
/-- The first summand moved to the end, of four. -/
theorem rot3 (d a b c : EReal) : d + a + b + c = a + b + c + d := by ac_rfl
/-- The first summand moved to the end, of five. -/
theorem rot4 (d a b c e : EReal) : d + a + b + c + e = a + b + c + e + d := by ac_rfl
/-- A maximum of arrays, entry by entry. -/
theorem maximumf_at' {s : Shape} (x y : FVec Ideal s .f32) (i) : maximumf x y i = max (x i) (y i) := rfl

/-- Row maxima of the scores of tile 0, chunk by chunk, the tile's own keys last. -/
def m0 (q : Vec Ideal S1x1x256x64 .f32)  (kd : Vec Ideal S1x1x256x64 .f32) : FVec Ideal S256x1 .f32 :=
  mx256 (dg (qs q) kd)
/-- What tile 0 of the queries stores: its own keys first, then the earlier chunks in order. -/
def tile0 (q : Vec Ideal S1x1x256x64 .f32)  (kd : Vec Ideal S1x1x256x64 .f32)  (vd : Vec Ideal S1x1x256x64 .f32) :
    FVec Ideal S1x1x256x64 .f32 :=
  fin (pv256 (pe256 (dg (qs q) kd) (m0 q kd)) vd)
   (sm256 (pe256 (dg (qs q) kd) (m0 q kd)))
/-- Tile 0 holds the row of attention the scores `z` and the values `w` of its row give. -/
theorem tile0_at (q : Vec Ideal S1x1x256x64 .f32)  (kd : Vec Ideal S1x1x256x64 .f32)  (vd : Vec Ideal S1x1x256x64 .f32) (r : Fin 256) (d : Fin 64) (z w : ℕ → EReal)
    (hd : ∀ c : Fin 256, dg (qs q) kd (ix2 r c) = z (0 + c))
    (hvd : ∀ c : Fin 256, vd (ix4 0 0 c d) = w (0 + c))
    (hz : ∀ t, 256 ≤ t → z t = ⊥) :
    tile0 q kd vd (ix4 0 0 r d) = rowAtt z w := by
  have hm : m0 q kd (ix2 r 0) = (Finset.range 256).sup z := by
    simp only [m0, maximumf_at', mx256_at, mx512_at, hd, chunk_sup]
    simp only [Nat.zero_add]
  rw [rowAtt_cut z w (a := 256) 1792 rfl hz]
  generalize hM : (Finset.range 256).sup z = M at hm ⊢
  simp only [tile0, fin_at, rt256_eq, rt512_eq, addf_at', sm256_at, sm512_at, pv256_at, pv512_at, pe256_at, pe512_at, hd, hvd, hm]
  rw [chunk_sum 256 0 (fun t => Ideal.exp2 (z t - M) * w t), chunk_sum 256 0 (fun t => Ideal.exp2 (z t - M))]
  simp only [Nat.zero_add]

/-- Row maxima of the scores of tile 1, chunk by chunk, the tile's own keys last. -/
def m1 (q : Vec Ideal S1x1x256x64 .f32) (k0 : Vec Ideal S1x1x256x64 .f32) (kd : Vec Ideal S1x1x256x64 .f32) : FVec Ideal S256x1 .f32 :=
  maximumf (mx256 (sc256 (qs q) k0)) (mx256 (dg (qs q) kd))
/-- What tile 1 of the queries stores: its own keys first, then the earlier chunks in order. -/
def tile1 (q : Vec Ideal S1x1x256x64 .f32) (k0 : Vec Ideal S1x1x256x64 .f32) (kd : Vec Ideal S1x1x256x64 .f32) (v0 : Vec Ideal S1x1x256x64 .f32) (vd : Vec Ideal S1x1x256x64 .f32) :
    FVec Ideal S1x1x256x64 .f32 :=
  fin (addf (pv256 (pe256 (dg (qs q) kd) (m1 q k0 kd)) vd)
    (pv256 (pe256 (rt256 (sc256 (qs q) k0)) (m1 q k0 kd)) v0))
   (addf (sm256 (pe256 (dg (qs q) kd) (m1 q k0 kd)))
    (sm256 (pe256 (rt256 (sc256 (qs q) k0)) (m1 q k0 kd))))
/-- Tile 1 holds the row of attention the scores `z` and the values `w` of its row give. -/
theorem tile1_at (q : Vec Ideal S1x1x256x64 .f32) (k0 : Vec Ideal S1x1x256x64 .f32) (kd : Vec Ideal S1x1x256x64 .f32) (v0 : Vec Ideal S1x1x256x64 .f32) (vd : Vec Ideal S1x1x256x64 .f32) (r : Fin 256) (d : Fin 64) (z w : ℕ → EReal)
    (hs0 : ∀ c : Fin 256, sc256 (qs q) k0 (ix2 r c) = z (0 + c))
    (hv0 : ∀ c : Fin 256, v0 (ix4 0 0 c d) = w (0 + c))
    (hd : ∀ c : Fin 256, dg (qs q) kd (ix2 r c) = z (256 + c))
    (hvd : ∀ c : Fin 256, vd (ix4 0 0 c d) = w (256 + c))
    (hz : ∀ t, 512 ≤ t → z t = ⊥) :
    tile1 q k0 kd v0 vd (ix4 0 0 r d) = rowAtt z w := by
  have hm : m1 q k0 kd (ix2 r 0) = (Finset.range 512).sup z := by
    simp only [m1, maximumf_at', mx256_at, mx512_at, hs0, hd, chunk_sup]
    rw [show 512 = 256 + 256 from rfl, sup_range_add z 256 256]
    simp only [Nat.zero_add]
  rw [rowAtt_cut z w (a := 512) 1536 rfl hz]
  generalize hM : (Finset.range 512).sup z = M at hm ⊢
  simp only [tile1, fin_at, rt256_eq, rt512_eq, addf_at', sm256_at, sm512_at, pv256_at, pv512_at, pe256_at, pe512_at, hs0, hd, hv0, hvd, hm]
  rw [chunk_sum 256 0 (fun t => Ideal.exp2 (z t - M) * w t), chunk_sum 256 0 (fun t => Ideal.exp2 (z t - M))]
  rw [chunk_sum 256 256 (fun t => Ideal.exp2 (z t - M) * w t), chunk_sum 256 256 (fun t => Ideal.exp2 (z t - M))]
  rw [show 512 = 256 + 256 from rfl, Finset.sum_range_add _ 256 256, Finset.sum_range_add _ 256 256]
  simp only [Nat.zero_add]
  exact congrArg₂ Ideal.div (rot1 _ _ ) (rot1 _ _ )

/-- Row maxima of the scores of tile 2, chunk by chunk, the tile's own keys last. -/
def m2 (q : Vec Ideal S1x1x256x64 .f32) (k0 : Vec Ideal S1x1x512x64 .f32) (kd : Vec Ideal S1x1x256x64 .f32) : FVec Ideal S256x1 .f32 :=
  maximumf (mx512 (sc512 (qs q) k0)) (mx256 (dg (qs q) kd))
/-- What tile 2 of the queries stores: its own keys first, then the earlier chunks in order. -/
def tile2 (q : Vec Ideal S1x1x256x64 .f32) (k0 : Vec Ideal S1x1x512x64 .f32) (kd : Vec Ideal S1x1x256x64 .f32) (v0 : Vec Ideal S1x1x512x64 .f32) (vd : Vec Ideal S1x1x256x64 .f32) :
    FVec Ideal S1x1x256x64 .f32 :=
  fin (addf (pv256 (pe256 (dg (qs q) kd) (m2 q k0 kd)) vd)
    (pv512 (pe512 (rt512 (sc512 (qs q) k0)) (m2 q k0 kd)) v0))
   (addf (sm256 (pe256 (dg (qs q) kd) (m2 q k0 kd)))
    (sm512 (pe512 (rt512 (sc512 (qs q) k0)) (m2 q k0 kd))))
/-- Tile 2 holds the row of attention the scores `z` and the values `w` of its row give. -/
theorem tile2_at (q : Vec Ideal S1x1x256x64 .f32) (k0 : Vec Ideal S1x1x512x64 .f32) (kd : Vec Ideal S1x1x256x64 .f32) (v0 : Vec Ideal S1x1x512x64 .f32) (vd : Vec Ideal S1x1x256x64 .f32) (r : Fin 256) (d : Fin 64) (z w : ℕ → EReal)
    (hs0 : ∀ c : Fin 512, sc512 (qs q) k0 (ix2 r c) = z (0 + c))
    (hv0 : ∀ c : Fin 512, v0 (ix4 0 0 c d) = w (0 + c))
    (hd : ∀ c : Fin 256, dg (qs q) kd (ix2 r c) = z (512 + c))
    (hvd : ∀ c : Fin 256, vd (ix4 0 0 c d) = w (512 + c))
    (hz : ∀ t, 768 ≤ t → z t = ⊥) :
    tile2 q k0 kd v0 vd (ix4 0 0 r d) = rowAtt z w := by
  have hm : m2 q k0 kd (ix2 r 0) = (Finset.range 768).sup z := by
    simp only [m2, maximumf_at', mx256_at, mx512_at, hs0, hd, chunk_sup]
    rw [show 768 = 512 + 256 from rfl, sup_range_add z 512 256]
    simp only [Nat.zero_add]
  rw [rowAtt_cut z w (a := 768) 1280 rfl hz]
  generalize hM : (Finset.range 768).sup z = M at hm ⊢
  simp only [tile2, fin_at, rt256_eq, rt512_eq, addf_at', sm256_at, sm512_at, pv256_at, pv512_at, pe256_at, pe512_at, hs0, hd, hv0, hvd, hm]
  rw [chunk_sum 512 0 (fun t => Ideal.exp2 (z t - M) * w t), chunk_sum 512 0 (fun t => Ideal.exp2 (z t - M))]
  rw [chunk_sum 256 512 (fun t => Ideal.exp2 (z t - M) * w t), chunk_sum 256 512 (fun t => Ideal.exp2 (z t - M))]
  rw [show 768 = 512 + 256 from rfl, Finset.sum_range_add _ 512 256, Finset.sum_range_add _ 512 256]
  simp only [Nat.zero_add]
  exact congrArg₂ Ideal.div (rot1 _ _ ) (rot1 _ _ )

/-- Row maxima of the scores of tile 3, chunk by chunk, the tile's own keys last. -/
def m3 (q : Vec Ideal S1x1x256x64 .f32) (k0 : Vec Ideal S1x1x512x64 .f32) (k1 : Vec Ideal S1x1x256x64 .f32) (kd : Vec Ideal S1x1x256x64 .f32) : FVec Ideal S256x1 .f32 :=
  maximumf (maximumf (mx512 (sc512 (qs q) k0)) (mx256 (sc256 (qs q) k1))) (mx256 (dg (qs q) kd))
/-- What tile 3 of the queries stores: its own keys first, then the earlier chunks in order. -/
def tile3 (q : Vec Ideal S1x1x256x64 .f32) (k0 : Vec Ideal S1x1x512x64 .f32) (k1 : Vec Ideal S1x1x256x64 .f32) (kd : Vec Ideal S1x1x256x64 .f32) (v0 : Vec Ideal S1x1x512x64 .f32) (v1 : Vec Ideal S1x1x256x64 .f32) (vd : Vec Ideal S1x1x256x64 .f32) :
    FVec Ideal S1x1x256x64 .f32 :=
  fin (addf (addf (pv256 (pe256 (dg (qs q) kd) (m3 q k0 k1 kd)) vd)
    (pv512 (pe512 (rt512 (sc512 (qs q) k0)) (m3 q k0 k1 kd)) v0))
    (pv256 (pe256 (rt256 (sc256 (qs q) k1)) (m3 q k0 k1 kd)) v1))
   (addf (addf (sm256 (pe256 (dg (qs q) kd) (m3 q k0 k1 kd)))
    (sm512 (pe512 (rt512 (sc512 (qs q) k0)) (m3 q k0 k1 kd))))
    (sm256 (pe256 (rt256 (sc256 (qs q) k1)) (m3 q k0 k1 kd))))
/-- Tile 3 holds the row of attention the scores `z` and the values `w` of its row give. -/
theorem tile3_at (q : Vec Ideal S1x1x256x64 .f32) (k0 : Vec Ideal S1x1x512x64 .f32) (k1 : Vec Ideal S1x1x256x64 .f32) (kd : Vec Ideal S1x1x256x64 .f32) (v0 : Vec Ideal S1x1x512x64 .f32) (v1 : Vec Ideal S1x1x256x64 .f32) (vd : Vec Ideal S1x1x256x64 .f32) (r : Fin 256) (d : Fin 64) (z w : ℕ → EReal)
    (hs0 : ∀ c : Fin 512, sc512 (qs q) k0 (ix2 r c) = z (0 + c))
    (hv0 : ∀ c : Fin 512, v0 (ix4 0 0 c d) = w (0 + c))
    (hs1 : ∀ c : Fin 256, sc256 (qs q) k1 (ix2 r c) = z (512 + c))
    (hv1 : ∀ c : Fin 256, v1 (ix4 0 0 c d) = w (512 + c))
    (hd : ∀ c : Fin 256, dg (qs q) kd (ix2 r c) = z (768 + c))
    (hvd : ∀ c : Fin 256, vd (ix4 0 0 c d) = w (768 + c))
    (hz : ∀ t, 1024 ≤ t → z t = ⊥) :
    tile3 q k0 k1 kd v0 v1 vd (ix4 0 0 r d) = rowAtt z w := by
  have hm : m3 q k0 k1 kd (ix2 r 0) = (Finset.range 1024).sup z := by
    simp only [m3, maximumf_at', mx256_at, mx512_at, hs0, hs1, hd, chunk_sup]
    rw [show 1024 = 768 + 256 from rfl, sup_range_add z 768 256]
    rw [show 768 = 512 + 256 from rfl, sup_range_add z 512 256]
    simp only [Nat.zero_add]
  rw [rowAtt_cut z w (a := 1024) 1024 rfl hz]
  generalize hM : (Finset.range 1024).sup z = M at hm ⊢
  simp only [tile3, fin_at, rt256_eq, rt512_eq, addf_at', sm256_at, sm512_at, pv256_at, pv512_at, pe256_at, pe512_at, hs0, hs1, hd, hv0, hv1, hvd, hm]
  rw [chunk_sum 512 0 (fun t => Ideal.exp2 (z t - M) * w t), chunk_sum 512 0 (fun t => Ideal.exp2 (z t - M))]
  rw [chunk_sum 256 512 (fun t => Ideal.exp2 (z t - M) * w t), chunk_sum 256 512 (fun t => Ideal.exp2 (z t - M))]
  rw [chunk_sum 256 768 (fun t => Ideal.exp2 (z t - M) * w t), chunk_sum 256 768 (fun t => Ideal.exp2 (z t - M))]
  rw [show 1024 = 768 + 256 from rfl, Finset.sum_range_add _ 768 256, Finset.sum_range_add _ 768 256]
  rw [show 768 = 512 + 256 from rfl, Finset.sum_range_add _ 512 256, Finset.sum_range_add _ 512 256]
  simp only [Nat.zero_add]
  exact congrArg₂ Ideal.div (rot2 _ _ _ ) (rot2 _ _ _ )

/-- Row maxima of the scores of tile 4, chunk by chunk, the tile's own keys last. -/
def m4 (q : Vec Ideal S1x1x256x64 .f32) (k0 : Vec Ideal S1x1x512x64 .f32) (k1 : Vec Ideal S1x1x512x64 .f32) (kd : Vec Ideal S1x1x256x64 .f32) : FVec Ideal S256x1 .f32 :=
  maximumf (maximumf (mx512 (sc512 (qs q) k0)) (mx512 (sc512 (qs q) k1))) (mx256 (dg (qs q) kd))
/-- What tile 4 of the queries stores: its own keys first, then the earlier chunks in order. -/
def tile4 (q : Vec Ideal S1x1x256x64 .f32) (k0 : Vec Ideal S1x1x512x64 .f32) (k1 : Vec Ideal S1x1x512x64 .f32) (kd : Vec Ideal S1x1x256x64 .f32) (v0 : Vec Ideal S1x1x512x64 .f32) (v1 : Vec Ideal S1x1x512x64 .f32) (vd : Vec Ideal S1x1x256x64 .f32) :
    FVec Ideal S1x1x256x64 .f32 :=
  fin (addf (addf (pv256 (pe256 (dg (qs q) kd) (m4 q k0 k1 kd)) vd)
    (pv512 (pe512 (rt512 (sc512 (qs q) k0)) (m4 q k0 k1 kd)) v0))
    (pv512 (pe512 (rt512 (sc512 (qs q) k1)) (m4 q k0 k1 kd)) v1))
   (addf (addf (sm256 (pe256 (dg (qs q) kd) (m4 q k0 k1 kd)))
    (sm512 (pe512 (rt512 (sc512 (qs q) k0)) (m4 q k0 k1 kd))))
    (sm512 (pe512 (rt512 (sc512 (qs q) k1)) (m4 q k0 k1 kd))))
/-- Tile 4 holds the row of attention the scores `z` and the values `w` of its row give. -/
theorem tile4_at (q : Vec Ideal S1x1x256x64 .f32) (k0 : Vec Ideal S1x1x512x64 .f32) (k1 : Vec Ideal S1x1x512x64 .f32) (kd : Vec Ideal S1x1x256x64 .f32) (v0 : Vec Ideal S1x1x512x64 .f32) (v1 : Vec Ideal S1x1x512x64 .f32) (vd : Vec Ideal S1x1x256x64 .f32) (r : Fin 256) (d : Fin 64) (z w : ℕ → EReal)
    (hs0 : ∀ c : Fin 512, sc512 (qs q) k0 (ix2 r c) = z (0 + c))
    (hv0 : ∀ c : Fin 512, v0 (ix4 0 0 c d) = w (0 + c))
    (hs1 : ∀ c : Fin 512, sc512 (qs q) k1 (ix2 r c) = z (512 + c))
    (hv1 : ∀ c : Fin 512, v1 (ix4 0 0 c d) = w (512 + c))
    (hd : ∀ c : Fin 256, dg (qs q) kd (ix2 r c) = z (1024 + c))
    (hvd : ∀ c : Fin 256, vd (ix4 0 0 c d) = w (1024 + c))
    (hz : ∀ t, 1280 ≤ t → z t = ⊥) :
    tile4 q k0 k1 kd v0 v1 vd (ix4 0 0 r d) = rowAtt z w := by
  have hm : m4 q k0 k1 kd (ix2 r 0) = (Finset.range 1280).sup z := by
    simp only [m4, maximumf_at', mx256_at, mx512_at, hs0, hs1, hd, chunk_sup]
    rw [show 1280 = 1024 + 256 from rfl, sup_range_add z 1024 256]
    rw [show 1024 = 512 + 512 from rfl, sup_range_add z 512 512]
    simp only [Nat.zero_add]
  rw [rowAtt_cut z w (a := 1280) 768 rfl hz]
  generalize hM : (Finset.range 1280).sup z = M at hm ⊢
  simp only [tile4, fin_at, rt256_eq, rt512_eq, addf_at', sm256_at, sm512_at, pv256_at, pv512_at, pe256_at, pe512_at, hs0, hs1, hd, hv0, hv1, hvd, hm]
  rw [chunk_sum 512 0 (fun t => Ideal.exp2 (z t - M) * w t), chunk_sum 512 0 (fun t => Ideal.exp2 (z t - M))]
  rw [chunk_sum 512 512 (fun t => Ideal.exp2 (z t - M) * w t), chunk_sum 512 512 (fun t => Ideal.exp2 (z t - M))]
  rw [chunk_sum 256 1024 (fun t => Ideal.exp2 (z t - M) * w t), chunk_sum 256 1024 (fun t => Ideal.exp2 (z t - M))]
  rw [show 1280 = 1024 + 256 from rfl, Finset.sum_range_add _ 1024 256, Finset.sum_range_add _ 1024 256]
  rw [show 1024 = 512 + 512 from rfl, Finset.sum_range_add _ 512 512, Finset.sum_range_add _ 512 512]
  simp only [Nat.zero_add]
  exact congrArg₂ Ideal.div (rot2 _ _ _ ) (rot2 _ _ _ )

/-- Row maxima of the scores of tile 5, chunk by chunk, the tile's own keys last. -/
def m5 (q : Vec Ideal S1x1x256x64 .f32) (k0 : Vec Ideal S1x1x512x64 .f32) (k1 : Vec Ideal S1x1x512x64 .f32) (k2 : Vec Ideal S1x1x256x64 .f32) (kd : Vec Ideal S1x1x256x64 .f32) : FVec Ideal S256x1 .f32 :=
  maximumf (maximumf (maximumf (mx512 (sc512 (qs q) k0)) (mx512 (sc512 (qs q) k1))) (mx256 (sc256 (qs q) k2))) (mx256 (dg (qs q) kd))
/-- What tile 5 of the queries stores: its own keys first, then the earlier chunks in order. -/
def tile5 (q : Vec Ideal S1x1x256x64 .f32) (k0 : Vec Ideal S1x1x512x64 .f32) (k1 : Vec Ideal S1x1x512x64 .f32) (k2 : Vec Ideal S1x1x256x64 .f32) (kd : Vec Ideal S1x1x256x64 .f32) (v0 : Vec Ideal S1x1x512x64 .f32) (v1 : Vec Ideal S1x1x512x64 .f32) (v2 : Vec Ideal S1x1x256x64 .f32) (vd : Vec Ideal S1x1x256x64 .f32) :
    FVec Ideal S1x1x256x64 .f32 :=
  fin (addf (addf (addf (pv256 (pe256 (dg (qs q) kd) (m5 q k0 k1 k2 kd)) vd)
    (pv512 (pe512 (rt512 (sc512 (qs q) k0)) (m5 q k0 k1 k2 kd)) v0))
    (pv512 (pe512 (rt512 (sc512 (qs q) k1)) (m5 q k0 k1 k2 kd)) v1))
    (pv256 (pe256 (rt256 (sc256 (qs q) k2)) (m5 q k0 k1 k2 kd)) v2))
   (addf (addf (addf (sm256 (pe256 (dg (qs q) kd) (m5 q k0 k1 k2 kd)))
    (sm512 (pe512 (rt512 (sc512 (qs q) k0)) (m5 q k0 k1 k2 kd))))
    (sm512 (pe512 (rt512 (sc512 (qs q) k1)) (m5 q k0 k1 k2 kd))))
    (sm256 (pe256 (rt256 (sc256 (qs q) k2)) (m5 q k0 k1 k2 kd))))
/-- Tile 5 holds the row of attention the scores `z` and the values `w` of its row give. -/
theorem tile5_at (q : Vec Ideal S1x1x256x64 .f32) (k0 : Vec Ideal S1x1x512x64 .f32) (k1 : Vec Ideal S1x1x512x64 .f32) (k2 : Vec Ideal S1x1x256x64 .f32) (kd : Vec Ideal S1x1x256x64 .f32) (v0 : Vec Ideal S1x1x512x64 .f32) (v1 : Vec Ideal S1x1x512x64 .f32) (v2 : Vec Ideal S1x1x256x64 .f32) (vd : Vec Ideal S1x1x256x64 .f32) (r : Fin 256) (d : Fin 64) (z w : ℕ → EReal)
    (hs0 : ∀ c : Fin 512, sc512 (qs q) k0 (ix2 r c) = z (0 + c))
    (hv0 : ∀ c : Fin 512, v0 (ix4 0 0 c d) = w (0 + c))
    (hs1 : ∀ c : Fin 512, sc512 (qs q) k1 (ix2 r c) = z (512 + c))
    (hv1 : ∀ c : Fin 512, v1 (ix4 0 0 c d) = w (512 + c))
    (hs2 : ∀ c : Fin 256, sc256 (qs q) k2 (ix2 r c) = z (1024 + c))
    (hv2 : ∀ c : Fin 256, v2 (ix4 0 0 c d) = w (1024 + c))
    (hd : ∀ c : Fin 256, dg (qs q) kd (ix2 r c) = z (1280 + c))
    (hvd : ∀ c : Fin 256, vd (ix4 0 0 c d) = w (1280 + c))
    (hz : ∀ t, 1536 ≤ t → z t = ⊥) :
    tile5 q k0 k1 k2 kd v0 v1 v2 vd (ix4 0 0 r d) = rowAtt z w := by
  have hm : m5 q k0 k1 k2 kd (ix2 r 0) = (Finset.range 1536).sup z := by
    simp only [m5, maximumf_at', mx256_at, mx512_at, hs0, hs1, hs2, hd, chunk_sup]
    rw [show 1536 = 1280 + 256 from rfl, sup_range_add z 1280 256]
    rw [show 1280 = 1024 + 256 from rfl, sup_range_add z 1024 256]
    rw [show 1024 = 512 + 512 from rfl, sup_range_add z 512 512]
    simp only [Nat.zero_add]
  rw [rowAtt_cut z w (a := 1536) 512 rfl hz]
  generalize hM : (Finset.range 1536).sup z = M at hm ⊢
  simp only [tile5, fin_at, rt256_eq, rt512_eq, addf_at', sm256_at, sm512_at, pv256_at, pv512_at, pe256_at, pe512_at, hs0, hs1, hs2, hd, hv0, hv1, hv2, hvd, hm]
  rw [chunk_sum 512 0 (fun t => Ideal.exp2 (z t - M) * w t), chunk_sum 512 0 (fun t => Ideal.exp2 (z t - M))]
  rw [chunk_sum 512 512 (fun t => Ideal.exp2 (z t - M) * w t), chunk_sum 512 512 (fun t => Ideal.exp2 (z t - M))]
  rw [chunk_sum 256 1024 (fun t => Ideal.exp2 (z t - M) * w t), chunk_sum 256 1024 (fun t => Ideal.exp2 (z t - M))]
  rw [chunk_sum 256 1280 (fun t => Ideal.exp2 (z t - M) * w t), chunk_sum 256 1280 (fun t => Ideal.exp2 (z t - M))]
  rw [show 1536 = 1280 + 256 from rfl, Finset.sum_range_add _ 1280 256, Finset.sum_range_add _ 1280 256]
  rw [show 1280 = 1024 + 256 from rfl, Finset.sum_range_add _ 1024 256, Finset.sum_range_add _ 1024 256]
  rw [show 1024 = 512 + 512 from rfl, Finset.sum_range_add _ 512 512, Finset.sum_range_add _ 512 512]
  simp only [Nat.zero_add]
  exact congrArg₂ Ideal.div (rot3 _ _ _ _ ) (rot3 _ _ _ _ )

/-- Row maxima of the scores of tile 6, chunk by chunk, the tile's own keys last. -/
def m6 (q : Vec Ideal S1x1x256x64 .f32) (k0 : Vec Ideal S1x1x512x64 .f32) (k1 : Vec Ideal S1x1x512x64 .f32) (k2 : Vec Ideal S1x1x512x64 .f32) (kd : Vec Ideal S1x1x256x64 .f32) : FVec Ideal S256x1 .f32 :=
  maximumf (maximumf (maximumf (mx512 (sc512 (qs q) k0)) (mx512 (sc512 (qs q) k1))) (mx512 (sc512 (qs q) k2))) (mx256 (dg (qs q) kd))
/-- What tile 6 of the queries stores: its own keys first, then the earlier chunks in order. -/
def tile6 (q : Vec Ideal S1x1x256x64 .f32) (k0 : Vec Ideal S1x1x512x64 .f32) (k1 : Vec Ideal S1x1x512x64 .f32) (k2 : Vec Ideal S1x1x512x64 .f32) (kd : Vec Ideal S1x1x256x64 .f32) (v0 : Vec Ideal S1x1x512x64 .f32) (v1 : Vec Ideal S1x1x512x64 .f32) (v2 : Vec Ideal S1x1x512x64 .f32) (vd : Vec Ideal S1x1x256x64 .f32) :
    FVec Ideal S1x1x256x64 .f32 :=
  fin (addf (addf (addf (pv256 (pe256 (dg (qs q) kd) (m6 q k0 k1 k2 kd)) vd)
    (pv512 (pe512 (rt512 (sc512 (qs q) k0)) (m6 q k0 k1 k2 kd)) v0))
    (pv512 (pe512 (rt512 (sc512 (qs q) k1)) (m6 q k0 k1 k2 kd)) v1))
    (pv512 (pe512 (rt512 (sc512 (qs q) k2)) (m6 q k0 k1 k2 kd)) v2))
   (addf (addf (addf (sm256 (pe256 (dg (qs q) kd) (m6 q k0 k1 k2 kd)))
    (sm512 (pe512 (rt512 (sc512 (qs q) k0)) (m6 q k0 k1 k2 kd))))
    (sm512 (pe512 (rt512 (sc512 (qs q) k1)) (m6 q k0 k1 k2 kd))))
    (sm512 (pe512 (rt512 (sc512 (qs q) k2)) (m6 q k0 k1 k2 kd))))
/-- Tile 6 holds the row of attention the scores `z` and the values `w` of its row give. -/
theorem tile6_at (q : Vec Ideal S1x1x256x64 .f32) (k0 : Vec Ideal S1x1x512x64 .f32) (k1 : Vec Ideal S1x1x512x64 .f32) (k2 : Vec Ideal S1x1x512x64 .f32) (kd : Vec Ideal S1x1x256x64 .f32) (v0 : Vec Ideal S1x1x512x64 .f32) (v1 : Vec Ideal S1x1x512x64 .f32) (v2 : Vec Ideal S1x1x512x64 .f32) (vd : Vec Ideal S1x1x256x64 .f32) (r : Fin 256) (d : Fin 64) (z w : ℕ → EReal)
    (hs0 : ∀ c : Fin 512, sc512 (qs q) k0 (ix2 r c) = z (0 + c))
    (hv0 : ∀ c : Fin 512, v0 (ix4 0 0 c d) = w (0 + c))
    (hs1 : ∀ c : Fin 512, sc512 (qs q) k1 (ix2 r c) = z (512 + c))
    (hv1 : ∀ c : Fin 512, v1 (ix4 0 0 c d) = w (512 + c))
    (hs2 : ∀ c : Fin 512, sc512 (qs q) k2 (ix2 r c) = z (1024 + c))
    (hv2 : ∀ c : Fin 512, v2 (ix4 0 0 c d) = w (1024 + c))
    (hd : ∀ c : Fin 256, dg (qs q) kd (ix2 r c) = z (1536 + c))
    (hvd : ∀ c : Fin 256, vd (ix4 0 0 c d) = w (1536 + c))
    (hz : ∀ t, 1792 ≤ t → z t = ⊥) :
    tile6 q k0 k1 k2 kd v0 v1 v2 vd (ix4 0 0 r d) = rowAtt z w := by
  have hm : m6 q k0 k1 k2 kd (ix2 r 0) = (Finset.range 1792).sup z := by
    simp only [m6, maximumf_at', mx256_at, mx512_at, hs0, hs1, hs2, hd, chunk_sup]
    rw [show 1792 = 1536 + 256 from rfl, sup_range_add z 1536 256]
    rw [show 1536 = 1024 + 512 from rfl, sup_range_add z 1024 512]
    rw [show 1024 = 512 + 512 from rfl, sup_range_add z 512 512]
    simp only [Nat.zero_add]
  rw [rowAtt_cut z w (a := 1792) 256 rfl hz]
  generalize hM : (Finset.range 1792).sup z = M at hm ⊢
  simp only [tile6, fin_at, rt256_eq, rt512_eq, addf_at', sm256_at, sm512_at, pv256_at, pv512_at, pe256_at, pe512_at, hs0, hs1, hs2, hd, hv0, hv1, hv2, hvd, hm]
  rw [chunk_sum 512 0 (fun t => Ideal.exp2 (z t - M) * w t), chunk_sum 512 0 (fun t => Ideal.exp2 (z t - M))]
  rw [chunk_sum 512 512 (fun t => Ideal.exp2 (z t - M) * w t), chunk_sum 512 512 (fun t => Ideal.exp2 (z t - M))]
  rw [chunk_sum 512 1024 (fun t => Ideal.exp2 (z t - M) * w t), chunk_sum 512 1024 (fun t => Ideal.exp2 (z t - M))]
  rw [chunk_sum 256 1536 (fun t => Ideal.exp2 (z t - M) * w t), chunk_sum 256 1536 (fun t => Ideal.exp2 (z t - M))]
  rw [show 1792 = 1536 + 256 from rfl, Finset.sum_range_add _ 1536 256, Finset.sum_range_add _ 1536 256]
  rw [show 1536 = 1024 + 512 from rfl, Finset.sum_range_add _ 1024 512, Finset.sum_range_add _ 1024 512]
  rw [show 1024 = 512 + 512 from rfl, Finset.sum_range_add _ 512 512, Finset.sum_range_add _ 512 512]
  simp only [Nat.zero_add]
  exact congrArg₂ Ideal.div (rot3 _ _ _ _ ) (rot3 _ _ _ _ )

/-- Row maxima of the scores of tile 7, chunk by chunk, the tile's own keys last. -/
def m7 (q : Vec Ideal S1x1x256x64 .f32) (k0 : Vec Ideal S1x1x512x64 .f32) (k1 : Vec Ideal S1x1x512x64 .f32) (k2 : Vec Ideal S1x1x512x64 .f32) (k3 : Vec Ideal S1x1x256x64 .f32) (kd : Vec Ideal S1x1x256x64 .f32) : FVec Ideal S256x1 .f32 :=
  maximumf (maximumf (maximumf (maximumf (mx512 (sc512 (qs q) k0)) (mx512 (sc512 (qs q) k1))) (mx512 (sc512 (qs q) k2))) (mx256 (sc256 (qs q) k3))) (mx256 (dg (qs q) kd))
/-- What tile 7 of the queries stores: its own keys first, then the earlier chunks in order. -/
def tile7 (q : Vec Ideal S1x1x256x64 .f32) (k0 : Vec Ideal S1x1x512x64 .f32) (k1 : Vec Ideal S1x1x512x64 .f32) (k2 : Vec Ideal S1x1x512x64 .f32) (k3 : Vec Ideal S1x1x256x64 .f32) (kd : Vec Ideal S1x1x256x64 .f32) (v0 : Vec Ideal S1x1x512x64 .f32) (v1 : Vec Ideal S1x1x512x64 .f32) (v2 : Vec Ideal S1x1x512x64 .f32) (v3 : Vec Ideal S1x1x256x64 .f32) (vd : Vec Ideal S1x1x256x64 .f32) :
    FVec Ideal S1x1x256x64 .f32 :=
  fin (addf (addf (addf (addf (pv256 (pe256 (dg (qs q) kd) (m7 q k0 k1 k2 k3 kd)) vd)
    (pv512 (pe512 (rt512 (sc512 (qs q) k0)) (m7 q k0 k1 k2 k3 kd)) v0))
    (pv512 (pe512 (rt512 (sc512 (qs q) k1)) (m7 q k0 k1 k2 k3 kd)) v1))
    (pv512 (pe512 (rt512 (sc512 (qs q) k2)) (m7 q k0 k1 k2 k3 kd)) v2))
    (pv256 (pe256 (rt256 (sc256 (qs q) k3)) (m7 q k0 k1 k2 k3 kd)) v3))
   (addf (addf (addf (addf (sm256 (pe256 (dg (qs q) kd) (m7 q k0 k1 k2 k3 kd)))
    (sm512 (pe512 (rt512 (sc512 (qs q) k0)) (m7 q k0 k1 k2 k3 kd))))
    (sm512 (pe512 (rt512 (sc512 (qs q) k1)) (m7 q k0 k1 k2 k3 kd))))
    (sm512 (pe512 (rt512 (sc512 (qs q) k2)) (m7 q k0 k1 k2 k3 kd))))
    (sm256 (pe256 (rt256 (sc256 (qs q) k3)) (m7 q k0 k1 k2 k3 kd))))
/-- Tile 7 holds the row of attention the scores `z` and the values `w` of its row give. -/
theorem tile7_at (q : Vec Ideal S1x1x256x64 .f32) (k0 : Vec Ideal S1x1x512x64 .f32) (k1 : Vec Ideal S1x1x512x64 .f32) (k2 : Vec Ideal S1x1x512x64 .f32) (k3 : Vec Ideal S1x1x256x64 .f32) (kd : Vec Ideal S1x1x256x64 .f32) (v0 : Vec Ideal S1x1x512x64 .f32) (v1 : Vec Ideal S1x1x512x64 .f32) (v2 : Vec Ideal S1x1x512x64 .f32) (v3 : Vec Ideal S1x1x256x64 .f32) (vd : Vec Ideal S1x1x256x64 .f32) (r : Fin 256) (d : Fin 64) (z w : ℕ → EReal)
    (hs0 : ∀ c : Fin 512, sc512 (qs q) k0 (ix2 r c) = z (0 + c))
    (hv0 : ∀ c : Fin 512, v0 (ix4 0 0 c d) = w (0 + c))
    (hs1 : ∀ c : Fin 512, sc512 (qs q) k1 (ix2 r c) = z (512 + c))
    (hv1 : ∀ c : Fin 512, v1 (ix4 0 0 c d) = w (512 + c))
    (hs2 : ∀ c : Fin 512, sc512 (qs q) k2 (ix2 r c) = z (1024 + c))
    (hv2 : ∀ c : Fin 512, v2 (ix4 0 0 c d) = w (1024 + c))
    (hs3 : ∀ c : Fin 256, sc256 (qs q) k3 (ix2 r c) = z (1536 + c))
    (hv3 : ∀ c : Fin 256, v3 (ix4 0 0 c d) = w (1536 + c))
    (hd : ∀ c : Fin 256, dg (qs q) kd (ix2 r c) = z (1792 + c))
    (hvd : ∀ c : Fin 256, vd (ix4 0 0 c d) = w (1792 + c))
    (hz : ∀ t, 2048 ≤ t → z t = ⊥) :
    tile7 q k0 k1 k2 k3 kd v0 v1 v2 v3 vd (ix4 0 0 r d) = rowAtt z w := by
  have hm : m7 q k0 k1 k2 k3 kd (ix2 r 0) = (Finset.range 2048).sup z := by
    simp only [m7, maximumf_at', mx256_at, mx512_at, hs0, hs1, hs2, hs3, hd, chunk_sup]
    rw [show 2048 = 1792 + 256 from rfl, sup_range_add z 1792 256]
    rw [show 1792 = 1536 + 256 from rfl, sup_range_add z 1536 256]
    rw [show 1536 = 1024 + 512 from rfl, sup_range_add z 1024 512]
    rw [show 1024 = 512 + 512 from rfl, sup_range_add z 512 512]
    simp only [Nat.zero_add]
  rw [rowAtt_cut z w (a := 2048) 0 rfl hz]
  generalize hM : (Finset.range 2048).sup z = M at hm ⊢
  simp only [tile7, fin_at, rt256_eq, rt512_eq, addf_at', sm256_at, sm512_at, pv256_at, pv512_at, pe256_at, pe512_at, hs0, hs1, hs2, hs3, hd, hv0, hv1, hv2, hv3, hvd, hm]
  rw [chunk_sum 512 0 (fun t => Ideal.exp2 (z t - M) * w t), chunk_sum 512 0 (fun t => Ideal.exp2 (z t - M))]
  rw [chunk_sum 512 512 (fun t => Ideal.exp2 (z t - M) * w t), chunk_sum 512 512 (fun t => Ideal.exp2 (z t - M))]
  rw [chunk_sum 512 1024 (fun t => Ideal.exp2 (z t - M) * w t), chunk_sum 512 1024 (fun t => Ideal.exp2 (z t - M))]
  rw [chunk_sum 256 1536 (fun t => Ideal.exp2 (z t - M) * w t), chunk_sum 256 1536 (fun t => Ideal.exp2 (z t - M))]
  rw [chunk_sum 256 1792 (fun t => Ideal.exp2 (z t - M) * w t), chunk_sum 256 1792 (fun t => Ideal.exp2 (z t - M))]
  rw [show 2048 = 1792 + 256 from rfl, Finset.sum_range_add _ 1792 256, Finset.sum_range_add _ 1792 256]
  rw [show 1792 = 1536 + 256 from rfl, Finset.sum_range_add _ 1536 256, Finset.sum_range_add _ 1536 256]
  rw [show 1536 = 1024 + 512 from rfl, Finset.sum_range_add _ 1024 512, Finset.sum_range_add _ 1024 512]
  rw [show 1024 = 512 + 512 from rfl, Finset.sum_range_add _ 512 512, Finset.sum_range_add _ 512 512]
  simp only [Nat.zero_add]
  exact congrArg₂ Ideal.div (rot4 _ _ _ _ _ ) (rot4 _ _ _ _ _ )

end Cert.KernelIdeal.Value
end
-- ==== Proof.Block1.lean ====
module
public import proofs.«01_k».proof.Proof.Gen.KernelIdeal.Frame
public import proofs.«01_k».proof.Proof.Tile
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.RowSum

/-- The masked, scaled score of query row `i` against key row `t` of one head. -/
def zb (Q K : Vec Ideal S1x1x2048x64 .f32) (i t : ℕ) : EReal :=
  if h : t ≤ i ∧ i < 2048 then
    ∑ d : Fin 64, (Q (ix4 0 0 ⟨i, h.2⟩ d) * cq) * K (ix4 0 0 ⟨t, by omega⟩ d) else ⊥
/-- Column `d` of the values of one head, at key row `t`. -/
def wb (W : Vec Ideal S1x1x2048x64 .f32) (d : Fin 64) (t : ℕ) : EReal :=
  if h : t < 2048 then W (ix4 0 0 ⟨t, h⟩ d) else 0

/-- A key after the query is masked. -/
theorem zb_bot (Q K : Vec Ideal S1x1x2048x64 .f32) {i t : ℕ} (h : i < t) : zb Q K i t = ⊥ := by
  unfold zb; rw [dif_neg (by omega)]
/-- The scaled score of a key that the query sees. -/
theorem zb_in (Q K : Vec Ideal S1x1x2048x64 .f32) {i t : ℕ} (h : t ≤ i) (hi : i < 2048) : zb Q K i t =
    ∑ d : Fin 64, (Q (ix4 0 0 ⟨i, hi⟩ d) * cq) * K (ix4 0 0 ⟨t, by omega⟩ d) := by
  unfold zb; rw [dif_pos ⟨h, hi⟩]
/-- A value within the row. -/
theorem wb_in (W : Vec Ideal S1x1x2048x64 .f32) (d : Fin 64) {t : ℕ} (h : t < 2048) : wb W d t = W (ix4 0 0 ⟨t, h⟩ d) := by
  unfold wb; rw [dif_pos h]
/-- An index of a tile has zeros in front. -/
theorem ix4_00 (a b : Fin 1) (r : Fin 256) (d : Fin 64) : (ix4 a b r d : S1x1x256x64.Idx) = ix4 0 0 r d := by
  rw [Subsingleton.elim a 0, Subsingleton.elim b 0]

/-- What a load of 256 rows reads. -/
theorem ld256_at (X : Vec Ideal S1x1x2048x64 .f32) (o : ℕ) (h) (c : Fin 256) (d : Fin 64) (ho : o + c < 2048) :
    (View.ld X (Rect.unit ![0, 0, o, 0] ![1, 1, 256, 64] h) : Vec Ideal S1x1x256x64 .f32) (ix4 0 0 c d) = X (ix4 0 0 ⟨o + c, ho⟩ d) := by
  pointwise

/-- What a load of 512 rows reads. -/
theorem ld512_at (X : Vec Ideal S1x1x2048x64 .f32) (o : ℕ) (h) (c : Fin 512) (d : Fin 64) (ho : o + c < 2048) :
    (View.ld X (Rect.unit ![0, 0, o, 0] ![1, 1, 512, 64] h) : Vec Ideal S1x1x512x64 .f32) (ix4 0 0 c d) = X (ix4 0 0 ⟨o + c, ho⟩ d) := by
  pointwise

/-- Tile 0 of one head's block. -/
theorem tile0_blk (Q K W : Vec Ideal S1x1x2048x64 .f32) (r : Fin 256) (d : Fin 64) :
    tile0 (View.ld Q (Rect.unit ![0, 0, 0, 0] ![1, 1, 256, 64] inb_S1x1x2048x64_S1x1x256x64_0_0_0_0))
      (View.ld K (Rect.unit ![0, 0, 0, 0] ![1, 1, 256, 64] inb_S1x1x2048x64_S1x1x256x64_0_0_0_0))
      (View.ld W (Rect.unit ![0, 0, 0, 0] ![1, 1, 256, 64] inb_S1x1x2048x64_S1x1x256x64_0_0_0_0)) (ix4 0 0 r d) = rowAtt (zb Q K (0 + r)) (wb W d) :=
  tile0_at _ _ _ r d _ _
    (fun c => by
      have := c.isLt; have := r.isLt
      rw [dg_at]
      by_cases hc : (c : ℕ) ≤ r
      · rw [if_pos hc, zb_in Q K (by omega) (by omega)]
        refine Finset.sum_congr rfl fun e _ => ?_
        rw [qs_at, ld256_at Q 0 _ r e (by omega), ld256_at K 0 _ c e (by omega)]
      · rw [if_neg hc, zb_bot Q K (by omega)])
    (fun c => by
      have := c.isLt
      rw [wb_in W d (by omega), ld256_at W 0 _ c d (by omega)])
    (fun t ht => zb_bot Q K (by have := r.isLt; omega))

/-- Tile 1 of one head's block. -/
theorem tile1_blk (Q K W : Vec Ideal S1x1x2048x64 .f32) (r : Fin 256) (d : Fin 64) :
    tile1 (View.ld Q (Rect.unit ![0, 0, 256, 0] ![1, 1, 256, 64] inb_S1x1x2048x64_S1x1x256x64_0_0_256_0))
      (View.ld K (Rect.unit ![0, 0, 0, 0] ![1, 1, 256, 64] inb_S1x1x2048x64_S1x1x256x64_0_0_0_0))
      (View.ld K (Rect.unit ![0, 0, 256, 0] ![1, 1, 256, 64] inb_S1x1x2048x64_S1x1x256x64_0_0_256_0))
      (View.ld W (Rect.unit ![0, 0, 0, 0] ![1, 1, 256, 64] inb_S1x1x2048x64_S1x1x256x64_0_0_0_0))
      (View.ld W (Rect.unit ![0, 0, 256, 0] ![1, 1, 256, 64] inb_S1x1x2048x64_S1x1x256x64_0_0_256_0)) (ix4 0 0 r d) = rowAtt (zb Q K (256 + r)) (wb W d) :=
  tile1_at _ _ _ _ _ r d _ _
    (fun c => by
      have := c.isLt; have := r.isLt
      rw [zb_in Q K (by omega) (by omega), sc256_at]
      refine Finset.sum_congr rfl fun e _ => ?_
      rw [qs_at, ld256_at Q 256 _ r e (by omega), ld256_at K 0 _ c e (by omega)])
    (fun c => by
      have := c.isLt
      rw [wb_in W d (by omega), ld256_at W 0 _ c d (by omega)])
    (fun c => by
      have := c.isLt; have := r.isLt
      rw [dg_at]
      by_cases hc : (c : ℕ) ≤ r
      · rw [if_pos hc, zb_in Q K (by omega) (by omega)]
        refine Finset.sum_congr rfl fun e _ => ?_
        rw [qs_at, ld256_at Q 256 _ r e (by omega), ld256_at K 256 _ c e (by omega)]
      · rw [if_neg hc, zb_bot Q K (by omega)])
    (fun c => by
      have := c.isLt
      rw [wb_in W d (by omega), ld256_at W 256 _ c d (by omega)])
    (fun t ht => zb_bot Q K (by have := r.isLt; omega))

/-- Tile 2 of one head's block. -/
theorem tile2_blk (Q K W : Vec Ideal S1x1x2048x64 .f32) (r : Fin 256) (d : Fin 64) :
    tile2 (View.ld Q (Rect.unit ![0, 0, 512, 0] ![1, 1, 256, 64] inb_S1x1x2048x64_S1x1x256x64_0_0_512_0))
      (View.ld K (Rect.unit ![0, 0, 0, 0] ![1, 1, 512, 64] inb_S1x1x2048x64_S1x1x512x64_0_0_0_0))
      (View.ld K (Rect.unit ![0, 0, 512, 0] ![1, 1, 256, 64] inb_S1x1x2048x64_S1x1x256x64_0_0_512_0))
      (View.ld W (Rect.unit ![0, 0, 0, 0] ![1, 1, 512, 64] inb_S1x1x2048x64_S1x1x512x64_0_0_0_0))
      (View.ld W (Rect.unit ![0, 0, 512, 0] ![1, 1, 256, 64] inb_S1x1x2048x64_S1x1x256x64_0_0_512_0)) (ix4 0 0 r d) = rowAtt (zb Q K (512 + r)) (wb W d) :=
  tile2_at _ _ _ _ _ r d _ _
    (fun c => by
      have := c.isLt; have := r.isLt
      rw [zb_in Q K (by omega) (by omega), sc512_at]
      refine Finset.sum_congr rfl fun e _ => ?_
      rw [qs_at, ld256_at Q 512 _ r e (by omega), ld512_at K 0 _ c e (by omega)])
    (fun c => by
      have := c.isLt
      rw [wb_in W d (by omega), ld512_at W 0 _ c d (by omega)])
    (fun c => by
      have := c.isLt; have := r.isLt
      rw [dg_at]
      by_cases hc : (c : ℕ) ≤ r
      · rw [if_pos hc, zb_in Q K (by omega) (by omega)]
        refine Finset.sum_congr rfl fun e _ => ?_
        rw [qs_at, ld256_at Q 512 _ r e (by omega), ld256_at K 512 _ c e (by omega)]
      · rw [if_neg hc, zb_bot Q K (by omega)])
    (fun c => by
      have := c.isLt
      rw [wb_in W d (by omega), ld256_at W 512 _ c d (by omega)])
    (fun t ht => zb_bot Q K (by have := r.isLt; omega))

/-- Tile 3 of one head's block. -/
theorem tile3_blk (Q K W : Vec Ideal S1x1x2048x64 .f32) (r : Fin 256) (d : Fin 64) :
    tile3 (View.ld Q (Rect.unit ![0, 0, 768, 0] ![1, 1, 256, 64] inb_S1x1x2048x64_S1x1x256x64_0_0_768_0))
      (View.ld K (Rect.unit ![0, 0, 0, 0] ![1, 1, 512, 64] inb_S1x1x2048x64_S1x1x512x64_0_0_0_0))
      (View.ld K (Rect.unit ![0, 0, 512, 0] ![1, 1, 256, 64] inb_S1x1x2048x64_S1x1x256x64_0_0_512_0))
      (View.ld K (Rect.unit ![0, 0, 768, 0] ![1, 1, 256, 64] inb_S1x1x2048x64_S1x1x256x64_0_0_768_0))
      (View.ld W (Rect.unit ![0, 0, 0, 0] ![1, 1, 512, 64] inb_S1x1x2048x64_S1x1x512x64_0_0_0_0))
      (View.ld W (Rect.unit ![0, 0, 512, 0] ![1, 1, 256, 64] inb_S1x1x2048x64_S1x1x256x64_0_0_512_0))
      (View.ld W (Rect.unit ![0, 0, 768, 0] ![1, 1, 256, 64] inb_S1x1x2048x64_S1x1x256x64_0_0_768_0)) (ix4 0 0 r d) = rowAtt (zb Q K (768 + r)) (wb W d) :=
  tile3_at _ _ _ _ _ _ _ r d _ _
    (fun c => by
      have := c.isLt; have := r.isLt
      rw [zb_in Q K (by omega) (by omega), sc512_at]
      refine Finset.sum_congr rfl fun e _ => ?_
      rw [qs_at, ld256_at Q 768 _ r e (by omega), ld512_at K 0 _ c e (by omega)])
    (fun c => by
      have := c.isLt
      rw [wb_in W d (by omega), ld512_at W 0 _ c d (by omega)])
    (fun c => by
      have := c.isLt; have := r.isLt
      rw [zb_in Q K (by omega) (by omega), sc256_at]
      refine Finset.sum_congr rfl fun e _ => ?_
      rw [qs_at, ld256_at Q 768 _ r e (by omega), ld256_at K 512 _ c e (by omega)])
    (fun c => by
      have := c.isLt
      rw [wb_in W d (by omega), ld256_at W 512 _ c d (by omega)])
    (fun c => by
      have := c.isLt; have := r.isLt
      rw [dg_at]
      by_cases hc : (c : ℕ) ≤ r
      · rw [if_pos hc, zb_in Q K (by omega) (by omega)]
        refine Finset.sum_congr rfl fun e _ => ?_
        rw [qs_at, ld256_at Q 768 _ r e (by omega), ld256_at K 768 _ c e (by omega)]
      · rw [if_neg hc, zb_bot Q K (by omega)])
    (fun c => by
      have := c.isLt
      rw [wb_in W d (by omega), ld256_at W 768 _ c d (by omega)])
    (fun t ht => zb_bot Q K (by have := r.isLt; omega))

/-- Tile 4 of one head's block. -/
theorem tile4_blk (Q K W : Vec Ideal S1x1x2048x64 .f32) (r : Fin 256) (d : Fin 64) :
    tile4 (View.ld Q (Rect.unit ![0, 0, 1024, 0] ![1, 1, 256, 64] inb_S1x1x2048x64_S1x1x256x64_0_0_1024_0))
      (View.ld K (Rect.unit ![0, 0, 0, 0] ![1, 1, 512, 64] inb_S1x1x2048x64_S1x1x512x64_0_0_0_0))
      (View.ld K (Rect.unit ![0, 0, 512, 0] ![1, 1, 512, 64] inb_S1x1x2048x64_S1x1x512x64_0_0_512_0))
      (View.ld K (Rect.unit ![0, 0, 1024, 0] ![1, 1, 256, 64] inb_S1x1x2048x64_S1x1x256x64_0_0_1024_0))
      (View.ld W (Rect.unit ![0, 0, 0, 0] ![1, 1, 512, 64] inb_S1x1x2048x64_S1x1x512x64_0_0_0_0))
      (View.ld W (Rect.unit ![0, 0, 512, 0] ![1, 1, 512, 64] inb_S1x1x2048x64_S1x1x512x64_0_0_512_0))
      (View.ld W (Rect.unit ![0, 0, 1024, 0] ![1, 1, 256, 64] inb_S1x1x2048x64_S1x1x256x64_0_0_1024_0)) (ix4 0 0 r d) = rowAtt (zb Q K (1024 + r)) (wb W d) :=
  tile4_at _ _ _ _ _ _ _ r d _ _
    (fun c => by
      have := c.isLt; have := r.isLt
      rw [zb_in Q K (by omega) (by omega), sc512_at]
      refine Finset.sum_congr rfl fun e _ => ?_
      rw [qs_at, ld256_at Q 1024 _ r e (by omega), ld512_at K 0 _ c e (by omega)])
    (fun c => by
      have := c.isLt
      rw [wb_in W d (by omega), ld512_at W 0 _ c d (by omega)])
    (fun c => by
      have := c.isLt; have := r.isLt
      rw [zb_in Q K (by omega) (by omega), sc512_at]
      refine Finset.sum_congr rfl fun e _ => ?_
      rw [qs_at, ld256_at Q 1024 _ r e (by omega), ld512_at K 512 _ c e (by omega)])
    (fun c => by
      have := c.isLt
      rw [wb_in W d (by omega), ld512_at W 512 _ c d (by omega)])
    (fun c => by
      have := c.isLt; have := r.isLt
      rw [dg_at]
      by_cases hc : (c : ℕ) ≤ r
      · rw [if_pos hc, zb_in Q K (by omega) (by omega)]
        refine Finset.sum_congr rfl fun e _ => ?_
        rw [qs_at, ld256_at Q 1024 _ r e (by omega), ld256_at K 1024 _ c e (by omega)]
      · rw [if_neg hc, zb_bot Q K (by omega)])
    (fun c => by
      have := c.isLt
      rw [wb_in W d (by omega), ld256_at W 1024 _ c d (by omega)])
    (fun t ht => zb_bot Q K (by have := r.isLt; omega))

/-- Tile 5 of one head's block. -/
theorem tile5_blk (Q K W : Vec Ideal S1x1x2048x64 .f32) (r : Fin 256) (d : Fin 64) :
    tile5 (View.ld Q (Rect.unit ![0, 0, 1280, 0] ![1, 1, 256, 64] inb_S1x1x2048x64_S1x1x256x64_0_0_1280_0))
      (View.ld K (Rect.unit ![0, 0, 0, 0] ![1, 1, 512, 64] inb_S1x1x2048x64_S1x1x512x64_0_0_0_0))
      (View.ld K (Rect.unit ![0, 0, 512, 0] ![1, 1, 512, 64] inb_S1x1x2048x64_S1x1x512x64_0_0_512_0))
      (View.ld K (Rect.unit ![0, 0, 1024, 0] ![1, 1, 256, 64] inb_S1x1x2048x64_S1x1x256x64_0_0_1024_0))
      (View.ld K (Rect.unit ![0, 0, 1280, 0] ![1, 1, 256, 64] inb_S1x1x2048x64_S1x1x256x64_0_0_1280_0))
      (View.ld W (Rect.unit ![0, 0, 0, 0] ![1, 1, 512, 64] inb_S1x1x2048x64_S1x1x512x64_0_0_0_0))
      (View.ld W (Rect.unit ![0, 0, 512, 0] ![1, 1, 512, 64] inb_S1x1x2048x64_S1x1x512x64_0_0_512_0))
      (View.ld W (Rect.unit ![0, 0, 1024, 0] ![1, 1, 256, 64] inb_S1x1x2048x64_S1x1x256x64_0_0_1024_0))
      (View.ld W (Rect.unit ![0, 0, 1280, 0] ![1, 1, 256, 64] inb_S1x1x2048x64_S1x1x256x64_0_0_1280_0)) (ix4 0 0 r d) = rowAtt (zb Q K (1280 + r)) (wb W d) :=
  tile5_at _ _ _ _ _ _ _ _ _ r d _ _
    (fun c => by
      have := c.isLt; have := r.isLt
      rw [zb_in Q K (by omega) (by omega), sc512_at]
      refine Finset.sum_congr rfl fun e _ => ?_
      rw [qs_at, ld256_at Q 1280 _ r e (by omega), ld512_at K 0 _ c e (by omega)])
    (fun c => by
      have := c.isLt
      rw [wb_in W d (by omega), ld512_at W 0 _ c d (by omega)])
    (fun c => by
      have := c.isLt; have := r.isLt
      rw [zb_in Q K (by omega) (by omega), sc512_at]
      refine Finset.sum_congr rfl fun e _ => ?_
      rw [qs_at, ld256_at Q 1280 _ r e (by omega), ld512_at K 512 _ c e (by omega)])
    (fun c => by
      have := c.isLt
      rw [wb_in W d (by omega), ld512_at W 512 _ c d (by omega)])
    (fun c => by
      have := c.isLt; have := r.isLt
      rw [zb_in Q K (by omega) (by omega), sc256_at]
      refine Finset.sum_congr rfl fun e _ => ?_
      rw [qs_at, ld256_at Q 1280 _ r e (by omega), ld256_at K 1024 _ c e (by omega)])
    (fun c => by
      have := c.isLt
      rw [wb_in W d (by omega), ld256_at W 1024 _ c d (by omega)])
    (fun c => by
      have := c.isLt; have := r.isLt
      rw [dg_at]
      by_cases hc : (c : ℕ) ≤ r
      · rw [if_pos hc, zb_in Q K (by omega) (by omega)]
        refine Finset.sum_congr rfl fun e _ => ?_
        rw [qs_at, ld256_at Q 1280 _ r e (by omega), ld256_at K 1280 _ c e (by omega)]
      · rw [if_neg hc, zb_bot Q K (by omega)])
    (fun c => by
      have := c.isLt
      rw [wb_in W d (by omega), ld256_at W 1280 _ c d (by omega)])
    (fun t ht => zb_bot Q K (by have := r.isLt; omega))

/-- Tile 6 of one head's block. -/
theorem tile6_blk (Q K W : Vec Ideal S1x1x2048x64 .f32) (r : Fin 256) (d : Fin 64) :
    tile6 (View.ld Q (Rect.unit ![0, 0, 1536, 0] ![1, 1, 256, 64] inb_S1x1x2048x64_S1x1x256x64_0_0_1536_0))
      (View.ld K (Rect.unit ![0, 0, 0, 0] ![1, 1, 512, 64] inb_S1x1x2048x64_S1x1x512x64_0_0_0_0))
      (View.ld K (Rect.unit ![0, 0, 512, 0] ![1, 1, 512, 64] inb_S1x1x2048x64_S1x1x512x64_0_0_512_0))
      (View.ld K (Rect.unit ![0, 0, 1024, 0] ![1, 1, 512, 64] inb_S1x1x2048x64_S1x1x512x64_0_0_1024_0))
      (View.ld K (Rect.unit ![0, 0, 1536, 0] ![1, 1, 256, 64] inb_S1x1x2048x64_S1x1x256x64_0_0_1536_0))
      (View.ld W (Rect.unit ![0, 0, 0, 0] ![1, 1, 512, 64] inb_S1x1x2048x64_S1x1x512x64_0_0_0_0))
      (View.ld W (Rect.unit ![0, 0, 512, 0] ![1, 1, 512, 64] inb_S1x1x2048x64_S1x1x512x64_0_0_512_0))
      (View.ld W (Rect.unit ![0, 0, 1024, 0] ![1, 1, 512, 64] inb_S1x1x2048x64_S1x1x512x64_0_0_1024_0))
      (View.ld W (Rect.unit ![0, 0, 1536, 0] ![1, 1, 256, 64] inb_S1x1x2048x64_S1x1x256x64_0_0_1536_0)) (ix4 0 0 r d) = rowAtt (zb Q K (1536 + r)) (wb W d) :=
  tile6_at _ _ _ _ _ _ _ _ _ r d _ _
    (fun c => by
      have := c.isLt; have := r.isLt
      rw [zb_in Q K (by omega) (by omega), sc512_at]
      refine Finset.sum_congr rfl fun e _ => ?_
      rw [qs_at, ld256_at Q 1536 _ r e (by omega), ld512_at K 0 _ c e (by omega)])
    (fun c => by
      have := c.isLt
      rw [wb_in W d (by omega), ld512_at W 0 _ c d (by omega)])
    (fun c => by
      have := c.isLt; have := r.isLt
      rw [zb_in Q K (by omega) (by omega), sc512_at]
      refine Finset.sum_congr rfl fun e _ => ?_
      rw [qs_at, ld256_at Q 1536 _ r e (by omega), ld512_at K 512 _ c e (by omega)])
    (fun c => by
      have := c.isLt
      rw [wb_in W d (by omega), ld512_at W 512 _ c d (by omega)])
    (fun c => by
      have := c.isLt; have := r.isLt
      rw [zb_in Q K (by omega) (by omega), sc512_at]
      refine Finset.sum_congr rfl fun e _ => ?_
      rw [qs_at, ld256_at Q 1536 _ r e (by omega), ld512_at K 1024 _ c e (by omega)])
    (fun c => by
      have := c.isLt
      rw [wb_in W d (by omega), ld512_at W 1024 _ c d (by omega)])
    (fun c => by
      have := c.isLt; have := r.isLt
      rw [dg_at]
      by_cases hc : (c : ℕ) ≤ r
      · rw [if_pos hc, zb_in Q K (by omega) (by omega)]
        refine Finset.sum_congr rfl fun e _ => ?_
        rw [qs_at, ld256_at Q 1536 _ r e (by omega), ld256_at K 1536 _ c e (by omega)]
      · rw [if_neg hc, zb_bot Q K (by omega)])
    (fun c => by
      have := c.isLt
      rw [wb_in W d (by omega), ld256_at W 1536 _ c d (by omega)])
    (fun t ht => zb_bot Q K (by have := r.isLt; omega))

/-- Tile 7 of one head's block. -/
theorem tile7_blk (Q K W : Vec Ideal S1x1x2048x64 .f32) (r : Fin 256) (d : Fin 64) :
    tile7 (View.ld Q (Rect.unit ![0, 0, 1792, 0] ![1, 1, 256, 64] inb_S1x1x2048x64_S1x1x256x64_0_0_1792_0))
      (View.ld K (Rect.unit ![0, 0, 0, 0] ![1, 1, 512, 64] inb_S1x1x2048x64_S1x1x512x64_0_0_0_0))
      (View.ld K (Rect.unit ![0, 0, 512, 0] ![1, 1, 512, 64] inb_S1x1x2048x64_S1x1x512x64_0_0_512_0))
      (View.ld K (Rect.unit ![0, 0, 1024, 0] ![1, 1, 512, 64] inb_S1x1x2048x64_S1x1x512x64_0_0_1024_0))
      (View.ld K (Rect.unit ![0, 0, 1536, 0] ![1, 1, 256, 64] inb_S1x1x2048x64_S1x1x256x64_0_0_1536_0))
      (View.ld K (Rect.unit ![0, 0, 1792, 0] ![1, 1, 256, 64] inb_S1x1x2048x64_S1x1x256x64_0_0_1792_0))
      (View.ld W (Rect.unit ![0, 0, 0, 0] ![1, 1, 512, 64] inb_S1x1x2048x64_S1x1x512x64_0_0_0_0))
      (View.ld W (Rect.unit ![0, 0, 512, 0] ![1, 1, 512, 64] inb_S1x1x2048x64_S1x1x512x64_0_0_512_0))
      (View.ld W (Rect.unit ![0, 0, 1024, 0] ![1, 1, 512, 64] inb_S1x1x2048x64_S1x1x512x64_0_0_1024_0))
      (View.ld W (Rect.unit ![0, 0, 1536, 0] ![1, 1, 256, 64] inb_S1x1x2048x64_S1x1x256x64_0_0_1536_0))
      (View.ld W (Rect.unit ![0, 0, 1792, 0] ![1, 1, 256, 64] inb_S1x1x2048x64_S1x1x256x64_0_0_1792_0)) (ix4 0 0 r d) = rowAtt (zb Q K (1792 + r)) (wb W d) :=
  tile7_at _ _ _ _ _ _ _ _ _ _ _ r d _ _
    (fun c => by
      have := c.isLt; have := r.isLt
      rw [zb_in Q K (by omega) (by omega), sc512_at]
      refine Finset.sum_congr rfl fun e _ => ?_
      rw [qs_at, ld256_at Q 1792 _ r e (by omega), ld512_at K 0 _ c e (by omega)])
    (fun c => by
      have := c.isLt
      rw [wb_in W d (by omega), ld512_at W 0 _ c d (by omega)])
    (fun c => by
      have := c.isLt; have := r.isLt
      rw [zb_in Q K (by omega) (by omega), sc512_at]
      refine Finset.sum_congr rfl fun e _ => ?_
      rw [qs_at, ld256_at Q 1792 _ r e (by omega), ld512_at K 512 _ c e (by omega)])
    (fun c => by
      have := c.isLt
      rw [wb_in W d (by omega), ld512_at W 512 _ c d (by omega)])
    (fun c => by
      have := c.isLt; have := r.isLt
      rw [zb_in Q K (by omega) (by omega), sc512_at]
      refine Finset.sum_congr rfl fun e _ => ?_
      rw [qs_at, ld256_at Q 1792 _ r e (by omega), ld512_at K 1024 _ c e (by omega)])
    (fun c => by
      have := c.isLt
      rw [wb_in W d (by omega), ld512_at W 1024 _ c d (by omega)])
    (fun c => by
      have := c.isLt; have := r.isLt
      rw [zb_in Q K (by omega) (by omega), sc256_at]
      refine Finset.sum_congr rfl fun e _ => ?_
      rw [qs_at, ld256_at Q 1792 _ r e (by omega), ld256_at K 1536 _ c e (by omega)])
    (fun c => by
      have := c.isLt
      rw [wb_in W d (by omega), ld256_at W 1536 _ c d (by omega)])
    (fun c => by
      have := c.isLt; have := r.isLt
      rw [dg_at]
      by_cases hc : (c : ℕ) ≤ r
      · rw [if_pos hc, zb_in Q K (by omega) (by omega)]
        refine Finset.sum_congr rfl fun e _ => ?_
        rw [qs_at, ld256_at Q 1792 _ r e (by omega), ld256_at K 1792 _ c e (by omega)]
      · rw [if_neg hc, zb_bot Q K (by omega)])
    (fun c => by
      have := c.isLt
      rw [wb_in W d (by omega), ld256_at W 1792 _ c d (by omega)])
    (fun t ht => zb_bot Q K (by have := r.isLt; omega))

variable (V : (c : Dev nD) → (b : Ref sig .tc) → Buf (Elt Ideal) ((c : Thread nD τ).loc b))

set_option maxHeartbeats 1600000 in
/-- What one step of the attention launch leaves in its output block. -/
theorem outs1_at (c : Dev nD) (t : Fin cfg1.N) (y : S1x1x2048x64.Idx) (Q K W : Vec Ideal S1x1x2048x64 .f32)
    (hQ : iblk1 V c 0 t = Q) (hK : iblk1 V c 1 t = K) (hW : iblk1 V c 2 t = W) :
    outsAt1 V c t y = rowAtt (zb Q K (y 2)) (wb W (y 3)) := by
  unfold outsAt1
  frame_open
  simp (disch := decide) only [↓ View.readCov_skip, ↓ View.readCov_cons_toLoadRect, ↓ View.readCov_fill]
  frame_out
  rw [hQ, hK, hW]
  canon_tiles x h
  · rw [h2]
    have h3' : y 3 = x 3 := Fin.ext h3
    rw [h3']
    idx_vars x
    refine Eq.trans ?_ (tile7_blk Q K W _ _)
    rw [ix4_00]
    rfl
  · rw [h2]
    have h3' : y 3 = x 3 := Fin.ext h3
    rw [h3']
    idx_vars x
    refine Eq.trans ?_ (tile6_blk Q K W _ _)
    rw [ix4_00]
    rfl
  · rw [h2]
    have h3' : y 3 = x 3 := Fin.ext h3
    rw [h3']
    idx_vars x
    refine Eq.trans ?_ (tile5_blk Q K W _ _)
    rw [ix4_00]
    rfl
  · rw [h2]
    have h3' : y 3 = x 3 := Fin.ext h3
    rw [h3']
    idx_vars x
    refine Eq.trans ?_ (tile4_blk Q K W _ _)
    rw [ix4_00]
    rfl
  · rw [h2]
    have h3' : y 3 = x 3 := Fin.ext h3
    rw [h3']
    idx_vars x
    refine Eq.trans ?_ (tile3_blk Q K W _ _)
    rw [ix4_00]
    rfl
  · rw [h2]
    have h3' : y 3 = x 3 := Fin.ext h3
    rw [h3']
    idx_vars x
    refine Eq.trans ?_ (tile2_blk Q K W _ _)
    rw [ix4_00]
    rfl
  · rw [h2]
    have h3' : y 3 = x 3 := Fin.ext h3
    rw [h3']
    idx_vars x
    refine Eq.trans ?_ (tile1_blk Q K W _ _)
    rw [ix4_00]
    rfl
  · rw [h2, ← Nat.zero_add (x 2 : ℕ)]
    have h3' : y 3 = x 3 := Fin.ext h3
    rw [h3']
    idx_vars x
    refine Eq.trans ?_ (tile0_blk Q K W _ _)
    rw [ix4_00]
    rfl

end Cert.KernelIdeal.Value
end
-- ==== Proof.Block2.lean ====
module
public import proofs.«01_k».proof.Proof.Gen.KernelIdeal.Frame
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- One block of the output projection: 512 rows, the heads side by side, against the weights, plus the bias. -/
def outBlk (A : Vec Ideal S1x16x512x64 .f32) (W : Vec Ideal S1024x1024 .f32) (B : Vec Ideal S1x1024 .f32)
    (r : Fin 512) (n : Fin 1024) : EReal :=
  (∑ e : Fin 1024, A (ix4 0 ⟨e / 64, by omega⟩ r ⟨e % 64, by omega⟩) * W (ix2 n e)) + B (ix2 0 n)

/-- Sixteen heads side by side. -/
def cat (p : Fin 16 → FVec Ideal S512x64 .f32) : FVec Ideal S512x1024 .f32 :=
  concatenate S512x1024 1 [⟨S512x64, p 0⟩, ⟨S512x64, p 1⟩, ⟨S512x64, p 2⟩, ⟨S512x64, p 3⟩, ⟨S512x64, p 4⟩, ⟨S512x64, p 5⟩, ⟨S512x64, p 6⟩, ⟨S512x64, p 7⟩, ⟨S512x64, p 8⟩, ⟨S512x64, p 9⟩, ⟨S512x64, p 10⟩, ⟨S512x64, p 11⟩, ⟨S512x64, p 12⟩, ⟨S512x64, p 13⟩, ⟨S512x64, p 14⟩, ⟨S512x64, p 15⟩] concatenates_S512x64_S512x64_S512x64_S512x64_S512x64_S512x64_S512x64_S512x64_S512x64_S512x64_S512x64_S512x64_S512x64_S512x64_S512x64_S512x64_S512x1024_d1

/-- Column `e` of the heads side by side is column `e % 64` of head `e / 64`. -/
theorem cat_at (p : Fin 16 → FVec Ideal S512x64 .f32) (r : Fin 512) (e : Fin 1024) :
    cat p (ix2 r e) = p ⟨e / 64, by omega⟩ (ix2 r ⟨e % 64, by omega⟩) := by
  refine concatenate_ofFn_apply (t := S512x1024) (s₁ := S512x64) 1 p concatenates_S512x64_S512x64_S512x64_S512x64_S512x64_S512x64_S512x64_S512x64_S512x64_S512x64_S512x64_S512x64_S512x64_S512x64_S512x64_S512x64_S512x1024_d1 rfl 64 rfl (ix2 r e) ⟨e / 64, by omega⟩ rfl
    (ix2 r ⟨e % 64, by omega⟩) rfl fun b hb => ?_
  match b, hb with
  | ⟨0, _⟩, _ => rfl
  | ⟨1, _⟩, hb => exact absurd rfl hb

/-- Head `h` of one block. -/
def hd (A : Vec Ideal S1x16x512x64 .f32) (h : Fin 16) : FVec Ideal S512x64 .f32 :=
  fun j => A (ix4 0 h (j 0) (j 1))

/-- The heads side by side. -/
theorem pay24_eq (A W B) : k2_pay24 (F := Ideal) A W B = cat (hd A) := by
  have e0 : (shapeCast S512x64 (View.ld A r2_0) shapeCasts_S1x1x512x64_S512x64 : FVec Ideal S512x64 .f32) = hd A 0 := by
    funext j; idx_vars j; pointwise [hd, r2_0]
  have e1 : (shapeCast S512x64 (View.ld A r2_1) shapeCasts_S1x1x512x64_S512x64 : FVec Ideal S512x64 .f32) = hd A 1 := by
    funext j; idx_vars j; pointwise [hd, r2_1]
  have e2 : (shapeCast S512x64 (View.ld A r2_2) shapeCasts_S1x1x512x64_S512x64 : FVec Ideal S512x64 .f32) = hd A 2 := by
    funext j; idx_vars j; pointwise [hd, r2_2]
  have e3 : (shapeCast S512x64 (View.ld A r2_3) shapeCasts_S1x1x512x64_S512x64 : FVec Ideal S512x64 .f32) = hd A 3 := by
    funext j; idx_vars j; pointwise [hd, r2_3]
  have e4 : (shapeCast S512x64 (View.ld A r2_4) shapeCasts_S1x1x512x64_S512x64 : FVec Ideal S512x64 .f32) = hd A 4 := by
    funext j; idx_vars j; pointwise [hd, r2_4]
  have e5 : (shapeCast S512x64 (View.ld A r2_5) shapeCasts_S1x1x512x64_S512x64 : FVec Ideal S512x64 .f32) = hd A 5 := by
    funext j; idx_vars j; pointwise [hd, r2_5]
  have e6 : (shapeCast S512x64 (View.ld A r2_6) shapeCasts_S1x1x512x64_S512x64 : FVec Ideal S512x64 .f32) = hd A 6 := by
    funext j; idx_vars j; pointwise [hd, r2_6]
  have e7 : (shapeCast S512x64 (View.ld A r2_7) shapeCasts_S1x1x512x64_S512x64 : FVec Ideal S512x64 .f32) = hd A 7 := by
    funext j; idx_vars j; pointwise [hd, r2_7]
  have e8 : (shapeCast S512x64 (View.ld A r2_8) shapeCasts_S1x1x512x64_S512x64 : FVec Ideal S512x64 .f32) = hd A 8 := by
    funext j; idx_vars j; pointwise [hd, r2_8]
  have e9 : (shapeCast S512x64 (View.ld A r2_9) shapeCasts_S1x1x512x64_S512x64 : FVec Ideal S512x64 .f32) = hd A 9 := by
    funext j; idx_vars j; pointwise [hd, r2_9]
  have e10 : (shapeCast S512x64 (View.ld A r2_10) shapeCasts_S1x1x512x64_S512x64 : FVec Ideal S512x64 .f32) = hd A 10 := by
    funext j; idx_vars j; pointwise [hd, r2_10]
  have e11 : (shapeCast S512x64 (View.ld A r2_11) shapeCasts_S1x1x512x64_S512x64 : FVec Ideal S512x64 .f32) = hd A 11 := by
    funext j; idx_vars j; pointwise [hd, r2_11]
  have e12 : (shapeCast S512x64 (View.ld A r2_12) shapeCasts_S1x1x512x64_S512x64 : FVec Ideal S512x64 .f32) = hd A 12 := by
    funext j; idx_vars j; pointwise [hd, r2_12]
  have e13 : (shapeCast S512x64 (View.ld A r2_13) shapeCasts_S1x1x512x64_S512x64 : FVec Ideal S512x64 .f32) = hd A 13 := by
    funext j; idx_vars j; pointwise [hd, r2_13]
  have e14 : (shapeCast S512x64 (View.ld A r2_14) shapeCasts_S1x1x512x64_S512x64 : FVec Ideal S512x64 .f32) = hd A 14 := by
    funext j; idx_vars j; pointwise [hd, r2_14]
  have e15 : (shapeCast S512x64 (View.ld A r2_15) shapeCasts_S1x1x512x64_S512x64 : FVec Ideal S512x64 .f32) = hd A 15 := by
    funext j; idx_vars j; pointwise [hd, r2_15]
  simp only [k2_pay24, k2_pay15, k2_pay16, k2_pay17, k2_pay18, k2_pay19, k2_pay20, k2_pay21, k2_pay22, k2_pay23, k2_pay13, k2_pay4, k2_pay5, k2_pay6, k2_pay7, k2_pay8, k2_pay9, k2_pay10, k2_pay11, k2_pay12]
  rw [e0, e1, e2, e3, e4, e5, e6, e7, e8, e9, e10, e11, e12, e13, e14, e15]
  rfl

/-- The heads of a block, side by side, through one quarter of the weights. -/
theorem pay2_at (A : Vec Ideal S1x16x512x64 .f32) (w : Vec Ideal S256x1024 .f32) (b : Vec Ideal S1x256 .f32) (r : Fin 512) (n : Fin 256) :
    k2_pay2 (cat (hd A)) w b (ix3 0 r n) =
      (∑ e : Fin 1024, A (ix4 0 ⟨e / 64, by omega⟩ r ⟨e % 64, by omega⟩) * w (ix2 n e)) + b (ix2 0 n) := by
  pointwise [k2_pay2, cat_at, hd]

/-- One block of the last projection, computed in four column groups, entry by entry. -/
theorem ob_eq (A : Vec Ideal S1x16x512x64 .f32) (W : Vec Ideal S1024x1024 .f32) (B : Vec Ideal S1x1024 .f32)
    (r r' : Fin 512) (n n' : Fin 1024) (hr : (r : ℕ) = r') (hn : (n : ℕ) = n') :
    (∑ e : Fin 1024, A (ix4 0 ⟨e / 64, by omega⟩ r' ⟨e % 64, by omega⟩) * W (ix2 n' e)) + B (ix2 0 n') = outBlk A W B r n := by
  obtain rfl := Fin.ext hr
  obtain rfl := Fin.ext hn
  rfl

set_option maxHeartbeats 1600000 in
/-- What one step of the third launch writes. -/
theorem out2_3_at (A : Vec Ideal S1x16x512x64 .f32) (W : Vec Ideal S1024x1024 .f32) (B : Vec Ideal S1x1024 .f32) (y) :
    out2_3 A W B y = outBlk A W B (y 1) (y 2) := by
  have e14 : ∀ w b, k2_pay14 (k2_pay15 A W B) (k2_pay16 A W B) (k2_pay17 A W B) (k2_pay18 A W B) (k2_pay19 A W B) (k2_pay20 A W B)
      (k2_pay21 A W B) (k2_pay22 A W B) (k2_pay23 A W B) (View.ld A r2_9) (View.ld A r2_10) (View.ld A r2_11)
      (View.ld A r2_12) (View.ld A r2_13) (View.ld A r2_14) (View.ld A r2_15) w b = k2_pay2 (k2_pay24 A W B) w b := fun _ _ => rfl
  have e1 : ∀ C w b, k2_pay1 (F := Ideal) C w (constant S512x256 .f32 0x00000000#32) b = k2_pay2 C w b := fun _ _ _ => rfl
  have e3 : ∀ C w b, k2_pay3 (F := Ideal) C w b = k2_pay2 C w b := fun _ _ _ => rfl
  unfold out2_3
  simp only [e14, e1, e3, pay24_eq]
  canon_tiles x h
  all_goals
    idx_vars x
    rw [Subsingleton.elim x0 0]
    rw [pay2_at]
    pointwise [r2_0, r2_1, r2_2, r2_3, r2_4, r2_5, r2_6, r2_7, r2_8, r2_9, r2_10, r2_11, r2_12, r2_13, r2_14, r2_15, r2_16, r2_17, r2_18, r2_19, r2_20, r2_21, r2_22, r2_23, r2_24, r2_25, r2_26, r2_27]
    exact ob_eq _ _ _ _ _ _ _ (by omega) (by dsimp only; omega)
end Cert.KernelIdeal.Value
end
-- ==== Proof.Arrays.lean ====
module
public import proofs.«01_k».proof.Proof.Block0
public import proofs.«01_k».proof.Proof.Block1
public import proofs.«01_k».proof.Proof.Block2
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.RowSum

/-- A projection of all 4096 rows, split in 2 batches and 16 heads. -/
def PROJ (X : FVec Ideal S4096x1024 .f32) (W : FVec Ideal S1024x1024 .f32) (B : FVec Ideal S1x1024 .f32) :
    FVec Ideal S2x16x2048x64 .f32 := fun j =>
  (∑ e : Fin 1024, X (ix2 ⟨2048 * (j 0).val + (j 2).val, by have h0 : (j 0).val < 2 := (j 0).isLt; have h2 : (j 2).val < 2048 := (j 2).isLt; omega⟩ e)
      * W (ix2 ⟨64 * (j 1).val + (j 3).val, by have h0 : (j 1).val < 16 := (j 1).isLt; have h2 : (j 3).val < 64 := (j 3).isLt; omega⟩ e))
    + B (ix2 0 ⟨64 * (j 1).val + (j 3).val, by have h0 : (j 1).val < 16 := (j 1).isLt; have h2 : (j 3).val < 64 := (j 3).isLt; omega⟩)

/-- The part of a head array that one attention step reads. -/
def headOf (A : FVec Ideal S2x16x2048x64 .f32) (b : Fin 2) (h : Fin 16) : Vec Ideal S1x1x2048x64 .f32 :=
  fun y => A (ix4 b h (y 2) (y 3))

/-- Attention of all heads. -/
def ATT (Q K W : FVec Ideal S2x16x2048x64 .f32) : FVec Ideal S2x16x2048x64 .f32 := fun j =>
  rowAtt (zb (headOf Q (j 0) (j 1)) (headOf K (j 0) (j 1)) (j 2).val) (wb (headOf W (j 0) (j 1)) (j 3))

/-- The output projection of all rows. -/
def OUT (A : FVec Ideal S2x16x2048x64 .f32) (W : FVec Ideal S1024x1024 .f32) (B : FVec Ideal S1x1024 .f32) :
    FVec Ideal S2x2048x1024 .f32 := fun j =>
  (∑ e : Fin 1024, A (ix4 (j 0) ⟨e / 64, by omega⟩ (j 1) ⟨e % 64, by omega⟩) * W (ix2 (j 2) e)) + B (ix2 0 (j 2))

/-- Which blocks the first launch reads and writes at step `t`. -/
theorem idx0 : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![t.val / 4, 0, t.val % 4, 0] ∧ win0_8.index t = ![t.val / 4, 0, t.val % 4, 0] ∧
    win0_9.index t = ![t.val / 4, 0, t.val % 4, 0] :=
  (by decide +kernel : ∀ t : Fin grid0.N, _)
/-- Which blocks the second launch reads and writes at step `t`: batch and head. -/
theorem idx1 : ∀ t : Fin cfg1.N, win1_0.index t = ![t.val / 16, t.val % 16, 0, 0] ∧ win1_1.index t = ![t.val / 16, t.val % 16, 0, 0] ∧
    win1_2.index t = ![t.val / 16, t.val % 16, 0, 0] ∧ win1_3.index t = ![t.val / 16, t.val % 16, 0, 0] :=
  (by decide +kernel : ∀ t : Fin grid1.N, _)
/-- Which blocks the third launch reads and writes at step `t`. -/
theorem idx2 : ∀ t : Fin cfg2.N, win2_0.index t = ![t.val / 4, 0, t.val % 4, 0] ∧ win2_1.index t = ![0, 0] ∧
    win2_2.index t = ![0, 0] ∧ win2_3.index t = ![t.val / 4, t.val % 4, 0] :=
  (by decide +kernel : ∀ t : Fin grid2.N, _)

variable (V : (c : Dev nD) → (b : Ref sig .tc) → Buf (Elt Ideal) ((c : Thread nD τ).loc b))

set_option maxHeartbeats 1600000 in
/-- The first launch leaves the queries of all heads. -/
theorem arr0_7 (c : Dev nD) : (dat0 V c).arrAt 7 cfg0.N = PROJ (V c main_v0) (V c main_arg2) (V c main_v1) := by
  refine (dat0 V c).arrAt_eq_of_covers 7 _ (by decide +kernel) fun t hf y => ?_
  blk_simp
  rw [after0_7, out0_7_at]
  unfold projBlk PROJ
  blk_point [iblk0, idx0 t]

set_option maxHeartbeats 1600000 in
/-- The first launch leaves the keys of all heads. -/
theorem arr0_8 (c : Dev nD) : (dat0 V c).arrAt 8 cfg0.N = PROJ (V c main_v0) (V c main_arg4) (V c main_v2) := by
  refine (dat0 V c).arrAt_eq_of_covers 8 _ (by decide +kernel) fun t hf y => ?_
  blk_simp
  rw [after0_8, out0_8_at]
  unfold projBlk PROJ
  blk_point [iblk0, idx0 t]

set_option maxHeartbeats 1600000 in
/-- The first launch leaves the values of all heads. -/
theorem arr0_9 (c : Dev nD) : (dat0 V c).arrAt 9 cfg0.N = PROJ (V c main_v0) (V c main_arg6) (V c main_v3) := by
  refine (dat0 V c).arrAt_eq_of_covers 9 _ (by decide +kernel) fun t hf y => ?_
  blk_simp
  rw [after0_9, out0_9_at]
  unfold projBlk PROJ
  blk_point [iblk0, idx0 t]

set_option maxHeartbeats 1600000 in
/-- The second launch leaves the attention of all heads. -/
theorem arr1_3 (c : Dev nD) : (dat1 V c).arrAt 3 cfg1.N = ATT (V c main_v4_0) (V c main_v4_1) (V c main_v4_2) := by
  refine (dat1 V c).arrAt_eq_of_covers 3 _ (by decide +kernel) fun t hf y => ?_
  blk_simp
  rw [after1_3, outs1_at V c t y _ _ _ rfl rfl rfl]
  have hQ : iblk1 V c 0 t = headOf (V c main_v4_0) (((win1_3.blk t).view.emb y) 0) (((win1_3.blk t).view.emb y) 1) := by
    funext z; unfold headOf; blk_ext [iblk1, idx1 t]
  have hK : iblk1 V c 1 t = headOf (V c main_v4_1) (((win1_3.blk t).view.emb y) 0) (((win1_3.blk t).view.emb y) 1) := by
    funext z; unfold headOf; blk_ext [iblk1, idx1 t]
  have hW : iblk1 V c 2 t = headOf (V c main_v4_2) (((win1_3.blk t).view.emb y) 0) (((win1_3.blk t).view.emb y) 1) := by
    funext z; unfold headOf; blk_ext [iblk1, idx1 t]
  have h2 : (((win1_3.blk t).view.emb y) 2 : ℕ) = (y 2 : ℕ) := by blk_simp [idx1 t]
  have h3 : ((win1_3.blk t).view.emb y) 3 = y 3 := Fin.ext (by blk_simp [idx1 t])
  unfold ATT
  rw [hQ, hK, hW, h2, h3]

set_option maxHeartbeats 1600000 in
/-- The third launch leaves the output projection. -/
theorem arr2_3 (c : Dev nD) : (dat2 V c).arrAt 3 cfg2.N = OUT (V c main_v5) (V c main_arg8) (V c main_v6) := by
  refine (dat2 V c).arrAt_eq_of_covers 3 _ (by decide +kernel) fun t hf y => ?_
  blk_simp
  rw [after2_3, out2_3_at]
  unfold outBlk OUT
  blk_point [iblk2, idx2 t]

end Cert.KernelIdeal.Value
end
-- ==== Proof.KRun.lean ====
module
public import proofs.«01_k».proof.Proof.Arrays
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ) (ρ : Dev nD → PrngReg)

/-- The input rows and a bias, as the launches see them. -/
def xR (c : Dev nD) : FVec Ideal S4096x1024 .f32 :=
  shapeCast S4096x1024 (m ((c : Thread nD τ).loc main_arg0) : FVec Ideal S2x2048x1024 .f32) shapeCasts_S2x2048x1024_S4096x1024
def bR (b : FVec Ideal S1024 .f32) : FVec Ideal S1x1024 .f32 := shapeCast S1x1024 b shapeCasts_S1024_S1x1024

/-- Queries, keys, values of all heads, and the result, as functions of the arguments. -/
def qV (c : Dev nD) : FVec Ideal S2x16x2048x64 .f32 := PROJ (xR m c) (m ((c : Thread nD τ).loc main_arg2)) (bR (m ((c : Thread nD τ).loc main_arg3)))
def kV (c : Dev nD) : FVec Ideal S2x16x2048x64 .f32 := PROJ (xR m c) (m ((c : Thread nD τ).loc main_arg4)) (bR (m ((c : Thread nD τ).loc main_arg5)))
def vV (c : Dev nD) : FVec Ideal S2x16x2048x64 .f32 := PROJ (xR m c) (m ((c : Thread nD τ).loc main_arg6)) (bR (m ((c : Thread nD τ).loc main_arg7)))
def oV (c : Dev nD) : FVec Ideal S2x2048x1024 .f32 :=
  OUT (ATT (qV m c) (kV m c) (vV m c)) (m ((c : Thread nD τ).loc main_arg8)) (bR (m ((c : Thread nD τ).loc main_arg9)))

/-- The flattened input that the first launch reads. -/
theorem V1_v0 (c : Dev nD) : V1 m ρ c main_v0 = xR m c := by
  simp only [V1, W1, hostOps0]; after_results; rfl
/-- The bias of the queries that the first launch reads. -/
theorem V1_v1 (c : Dev nD) : V1 m ρ c main_v1 = bR (m ((c : Thread nD τ).loc main_arg3)) := by
  simp only [V1, W1, hostOps0]; after_results; rfl
/-- The bias of the keys that the first launch reads. -/
theorem V1_v2 (c : Dev nD) : V1 m ρ c main_v2 = bR (m ((c : Thread nD τ).loc main_arg5)) := by
  simp only [V1, W1, hostOps0]; after_results; rfl
/-- The bias of the values that the first launch reads. -/
theorem V1_v3 (c : Dev nD) : V1 m ρ c main_v3 = bR (m ((c : Thread nD τ).loc main_arg7)) := by
  simp only [V1, W1, hostOps0]; after_results; rfl

/-- The first launch finds the arguments as they were. -/
theorem V1_arg (c : Dev nD) (a) (h : a ∈ argRefs) : V1 m ρ c a = m ((c : Thread nD τ).loc a) := W1_args m ρ c a h

/-- The queries after the first launch. -/
theorem V2_q (c : Dev nD) : V2 m ρ c main_v4_0 = qV m c := by
  refine ((W2_arr m ρ c 7).trans (arr0_7 (V1 m ρ) c)).trans ?_
  rw [V1_v0, V1_v1, V1_arg m ρ c main_arg2 (by decide)]; rfl
/-- The keys after the first launch. -/
theorem V2_k (c : Dev nD) : V2 m ρ c main_v4_1 = kV m c := by
  refine ((W2_arr m ρ c 8).trans (arr0_8 (V1 m ρ) c)).trans ?_
  rw [V1_v0, V1_v2, V1_arg m ρ c main_arg4 (by decide)]; rfl
/-- The values after the first launch. -/
theorem V2_v (c : Dev nD) : V2 m ρ c main_v4_2 = vV m c := by
  refine ((W2_arr m ρ c 9).trans (arr0_9 (V1 m ρ) c)).trans ?_
  rw [V1_v0, V1_v3, V1_arg m ρ c main_arg6 (by decide)]; rfl

/-- The attention that the third launch reads. -/
theorem V4_v5 (c : Dev nD) : V4 m ρ c main_v5 = ATT (qV m c) (kV m c) (vV m c) := by
  refine ((W4_of m ρ c main_v5 (by decide)).trans ((W3_arr m ρ c 3).trans (arr1_3 (V2 m ρ) c))).trans ?_
  rw [V2_q, V2_k, V2_v]
/-- The bias that the third launch reads. -/
theorem V4_v6 (c : Dev nD) : V4 m ρ c main_v6 = bR (m ((c : Thread nD τ).loc main_arg9)) := by
  have h : W3 m ρ c (Proc.devRef .tc main_arg9) = m ((c : Thread nD τ).loc main_arg9) := W3_args m ρ c main_arg9 (by decide)
  simp only [V4, W4, hostOps2]; after_results
  rw [h]; rfl

/-- What the third result holds after the run. -/
theorem v7_eq (c : Dev nD) : W5 m ρ c (Proc.devRef .tc main_v7) = oV m c := by
  refine ((W5_arr m ρ c 3).trans (arr2_3 (V4 m ρ) c)).trans ?_
  rw [V4_v5, V4_v6]
  rw [show V4 m ρ c main_arg8 = m ((c : Thread nD τ).loc main_arg8) from W4_args m ρ c main_arg8 (by decide)]; rfl
/-- The keys at the end of the run. -/
theorem v4_1_eq (c : Dev nD) : W5 m ρ c (Proc.devRef .tc main_v4_1) = kV m c :=
  (W5_of m ρ c main_v4_1 (by decide)).trans ((W4_of m ρ c main_v4_1 (by decide)).trans ((W3_of m ρ c main_v4_1 (by decide)).trans (V2_k m ρ c)))
/-- The values at the end of the run. -/
theorem v4_2_eq (c : Dev nD) : W5 m ρ c (Proc.devRef .tc main_v4_2) = vV m c :=
  (W5_of m ρ c main_v4_2 (by decide)).trans ((W4_of m ρ c main_v4_2 (by decide)).trans ((W3_of m ρ c main_v4_2 (by decide)).trans (V2_v m ρ c)))

section Run
open Idealize.ShloMosaic.Tactic Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

set_option backward.isDefEq.respectTransparency.types false in
/-- The kernel's run: its three results as functions of the arguments, the arguments unchanged. -/
theorem run : θ_run defs (onTc (τ := τ) (main (F := Ideal))) ⟨m, fun _ => 0, ρ⟩ (fun r => ∀ c : Dev nD,
      r.2.mem ((c.tc : Thread nD τ).loc main_v7) = oV m c
      ∧ r.2.mem ((c.tc : Thread nD τ).loc main_v4_1) = kV m c
      ∧ r.2.mem ((c.tc : Thread nD τ).loc main_v4_2) = vV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run (F := Ideal) m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v7 (by decide))).trans (v7_eq m ρ c),
       (h c _ (mem_uc main_v4_1 (by decide))).trans (v4_1_eq m ρ c),
       (h c _ (mem_uc main_v4_2 (by decide))).trans (v4_2_eq m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Run

end Cert.KernelIdeal.Value
end
-- ==== Proof.RefOps.lean ====
module
public import proofs.«01_k».proof.Proof.Gen.ReferenceIdeal
public import Idealize.ShloMosaic.Lib.StableHlo.Run
public import Idealize.ShloMosaic.Lib.Pointwise
@[expose] public section
set_option maxRecDepth 16384
noncomputable section
namespace Cert.ReferenceIdeal.Steps
open Cert.ReferenceIdeal Cert.ReferenceIdeal.Gen Idealize.ShloMosaic Idealize.ShloMosaic.TcCoe Idealize.SL.Sem Idealize.ShloMosaic.StableHlo

variable {F : FTy → Type} [FloatOps F]

/-- Arrays of numbers, of truth values and of words, as a buffer holds them. -/
noncomputable abbrev A (F : FTy → Type) (S : Shape) := (⟨S, .f32⟩ : BufTy).Contents (Elt F)
noncomputable abbrev B1 (F : FTy → Type) (S : Shape) := (⟨S, .i1⟩ : BufTy).Contents (Elt F)
noncomputable abbrev B32 (F : FTy → Type) (S : Shape) := (⟨S, .i32⟩ : BufTy).Contents (Elt F)

/-- The operations of the query heads. -/
noncomputable abbrev opsQ : List (HloOp τ sig (Elt F)) :=
  [ nullary main_c (emptyVec S0 hz_S0),
    nullary main_c_0 (emptyVec S0 hz_S0),
    unary main_arg2 main_v0 ((transpose S1024x1024 [1, 0] · transposes_S1024x1024_S1024x1024_1_0) : A F S1024x1024 → A F S1024x1024),
    binary main_arg0 main_v0 main_v1 ((fun l r => Host.dotGeneral dot_S2x2048x1024_S1024x1024_S2x2048x1024_2_0_01_1_n_n none l r) : A F S2x2048x1024 → A F S1024x1024 → A F S2x2048x1024),
    unary main_arg3 main_v2 (broadcastInDim S1x1x1024 ![2] bcast_S1024_S1x1x1024_2 : A F S1024 → A F S1x1x1024),
    unary main_v2 main_v3 (broadcastInDim S2x2048x1024 ![0, 1, 2] bcast_S1x1x1024_S2x2048x1024_0_1_2 : A F S1x1x1024 → A F S2x2048x1024),
    binary main_v1 main_v3 main_v4 (addf : A F S2x2048x1024 → A F S2x2048x1024 → A F S2x2048x1024),
    reshape main_v4 main_v5 (rfl : (.f32 : EltTy) = .f32) shapeCasts_S2x2048x1024_S2x2048x16x64,
    unary main_v5 main_v6 ((transpose S2x16x2048x64 [0, 2, 1, 3] · transposes_S2x2048x16x64_S2x16x2048x64_0_2_1_3) : A F S2x2048x16x64 → A F S2x16x2048x64) ]

/-- What they write. -/
abbrev opsQ_W : List (Ref sig .tc) := [main_c, main_c_0, main_v0, main_v1, main_v2, main_v3, main_v4, main_v5, main_v6]

/-- The operations of the queries leave every other array as it was. -/
theorem opsQ_of (V : Valuation τ sig (Elt F)) (r : Ref sig .tc) (h : r ∉ opsQ_W) : after opsQ V (Proc.devRef .tc r) = V (Proc.devRef .tc r) :=
  after_of_writes_sub opsQ V (forall_writes_sub_of_map rfl) h

/-- The operations of the key heads. -/
noncomputable abbrev opsK : List (HloOp τ sig (Elt F)) :=
  [ unary main_arg4 main_v7 ((transpose S1024x1024 [1, 0] · transposes_S1024x1024_S1024x1024_1_0) : A F S1024x1024 → A F S1024x1024),
    binary main_arg0 main_v7 main_v8 ((fun l r => Host.dotGeneral dot_S2x2048x1024_S1024x1024_S2x2048x1024_2_0_01_1_n_n none l r) : A F S2x2048x1024 → A F S1024x1024 → A F S2x2048x1024),
    unary main_arg5 main_v9 (broadcastInDim S1x1x1024 ![2] bcast_S1024_S1x1x1024_2 : A F S1024 → A F S1x1x1024),
    unary main_v9 main_v10 (broadcastInDim S2x2048x1024 ![0, 1, 2] bcast_S1x1x1024_S2x2048x1024_0_1_2 : A F S1x1x1024 → A F S2x2048x1024),
    binary main_v8 main_v10 main_v11 (addf : A F S2x2048x1024 → A F S2x2048x1024 → A F S2x2048x1024),
    reshape main_v11 main_v12 (rfl : (.f32 : EltTy) = .f32) shapeCasts_S2x2048x1024_S2x2048x16x64,
    unary main_v12 main_v13 ((transpose S2x16x2048x64 [0, 2, 1, 3] · transposes_S2x2048x16x64_S2x16x2048x64_0_2_1_3) : A F S2x2048x16x64 → A F S2x16x2048x64) ]

/-- What they write. -/
abbrev opsK_W : List (Ref sig .tc) := [main_v7, main_v8, main_v9, main_v10, main_v11, main_v12, main_v13]

/-- The operations of the keys leave every other array as it was. -/
theorem opsK_of (V : Valuation τ sig (Elt F)) (r : Ref sig .tc) (h : r ∉ opsK_W) : after opsK V (Proc.devRef .tc r) = V (Proc.devRef .tc r) :=
  after_of_writes_sub opsK V (forall_writes_sub_of_map rfl) h

/-- The operations of the value heads. -/
noncomputable abbrev opsV : List (HloOp τ sig (Elt F)) :=
  [ unary main_arg6 main_v14 ((transpose S1024x1024 [1, 0] · transposes_S1024x1024_S1024x1024_1_0) : A F S1024x1024 → A F S1024x1024),
    binary main_arg0 main_v14 main_v15 ((fun l r => Host.dotGeneral dot_S2x2048x1024_S1024x1024_S2x2048x1024_2_0_01_1_n_n none l r) : A F S2x2048x1024 → A F S1024x1024 → A F S2x2048x1024),
    unary main_arg7 main_v16 (broadcastInDim S1x1x1024 ![2] bcast_S1024_S1x1x1024_2 : A F S1024 → A F S1x1x1024),
    unary main_v16 main_v17 (broadcastInDim S2x2048x1024 ![0, 1, 2] bcast_S1x1x1024_S2x2048x1024_0_1_2 : A F S1x1x1024 → A F S2x2048x1024),
    binary main_v15 main_v17 main_v18 (addf : A F S2x2048x1024 → A F S2x2048x1024 → A F S2x2048x1024),
    reshape main_v18 main_v19 (rfl : (.f32 : EltTy) = .f32) shapeCasts_S2x2048x1024_S2x2048x16x64,
    unary main_v19 main_v20 ((transpose S2x16x2048x64 [0, 2, 1, 3] · transposes_S2x2048x16x64_S2x16x2048x64_0_2_1_3) : A F S2x2048x16x64 → A F S2x16x2048x64) ]

/-- What they write. -/
abbrev opsV_W : List (Ref sig .tc) := [main_v14, main_v15, main_v16, main_v17, main_v18, main_v19, main_v20]

/-- The operations of the values leave every other array as it was. -/
theorem opsV_of (V : Valuation τ sig (Elt F)) (r : Ref sig .tc) (h : r ∉ opsV_W) : after opsV V (Proc.devRef .tc r) = V (Proc.devRef .tc r) :=
  after_of_writes_sub opsV V (forall_writes_sub_of_map rfl) h

/-- The operations of the two cache writes. -/
noncomputable abbrev opsC : List (HloOp τ sig (Elt F)) :=
  [ ternary main_arg10 main_c main_v13 main_v21 ((fun x i u => Host.scatter scatter_S2x16x2048x64_S0_S2x16x2048x64_0123_n_n_0 (fun _ b => b) x i u) : A F S2x16x2048x64 → B32 F S0 → A F S2x16x2048x64 → A F S2x16x2048x64),
    ternary main_arg11 main_c_0 main_v20 main_v22 ((fun x i u => Host.scatter scatter_S2x16x2048x64_S0_S2x16x2048x64_0123_n_n_0 (fun _ b => b) x i u) : A F S2x16x2048x64 → B32 F S0 → A F S2x16x2048x64 → A F S2x16x2048x64) ]

/-- What they write. -/
abbrev opsC_W : List (Ref sig .tc) := [main_v21, main_v22]

/-- The operations of the caches leave every other array as it was. -/
theorem opsC_of (V : Valuation τ sig (Elt F)) (r : Ref sig .tc) (h : r ∉ opsC_W) : after opsC V (Proc.devRef .tc r) = V (Proc.devRef .tc r) :=
  after_of_writes_sub opsC V (forall_writes_sub_of_map rfl) h

/-- The operations of the scaled scores. -/
noncomputable abbrev opsS : List (HloOp τ sig (Elt F)) :=
  [ binary main_v6 main_v21 main_v23 ((fun l r => Host.dotGeneral dot_S2x16x2048x64_S2x16x2048x64_S2x16x2048x2048_3_3_2_2_01_01 none l r) : A F S2x16x2048x64 → A F S2x16x2048x64 → A F S2x16x2048x2048),
    nullary main_cst (constant S_ .f32 0x41000000#32),
    unary main_cst main_v24 (broadcastInDim S2x16x2048x2048 ![] bcast_S_S2x16x2048x2048 : A F S_ → A F S2x16x2048x2048),
    binary main_v23 main_v24 main_v25 (Host.divf : A F S2x16x2048x2048 → A F S2x16x2048x2048 → A F S2x16x2048x2048) ]

/-- What they write. -/
abbrev opsS_W : List (Ref sig .tc) := [main_v23, main_cst, main_v24, main_v25]

/-- The operations of the scores leave every other array as it was. -/
theorem opsS_of (V : Valuation τ sig (Elt F)) (r : Ref sig .tc) (h : r ∉ opsS_W) : after opsS V (Proc.devRef .tc r) = V (Proc.devRef .tc r) :=
  after_of_writes_sub opsS V (forall_writes_sub_of_map rfl) h

/-- The operations of the mask. -/
noncomputable abbrev opsM : List (HloOp τ sig (Elt F)) :=
  [ nullary main_cst_1 (constant S_ .f32 0x3F800000#32),
    unary main_cst_1 main_v26 (broadcastInDim S2048x2048 ![] bcast_S_S2048x2048 : A F S_ → A F S2048x2048),
    TRef.nullary (TRef.of (T := ⟨S2048x2048, .i32⟩) main_call0_v0) (iotaInDim S2048x2048 32 0),
    TRef.nullary (TRef.of (T := ⟨S_, .i32⟩) main_call0_c) (constantI S_ 32 0#32),
    TRef.unary (TRef.of (T := ⟨S_, .i32⟩) main_call0_c) (TRef.of (T := ⟨S2048x2048, .i32⟩) main_call0_v1) (broadcastInDim S2048x2048 ![] bcast_S_S2048x2048),
    TRef.binary (TRef.of (T := ⟨S2048x2048, .i32⟩) main_call0_v0) (TRef.of (T := ⟨S2048x2048, .i32⟩) main_call0_v1) (TRef.of (T := ⟨S2048x2048, .i32⟩) main_call0_v2) addi,
    TRef.nullary (TRef.of (T := ⟨S2048x2048, .i32⟩) main_call0_v3) (iotaInDim S2048x2048 32 1),
    TRef.binary (TRef.of (T := ⟨S2048x2048, .i32⟩) main_call0_v2) (TRef.of (T := ⟨S2048x2048, .i32⟩) main_call0_v3) (TRef.of (T := ⟨S2048x2048, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S2048x2048, .f32⟩) main_call0_v5) (broadcastInDim S2048x2048 ![] bcast_S_S2048x2048),
    TRef.ternary (TRef.of (T := ⟨S2048x2048, .i1⟩) main_call0_v4) (TRef.of (T := ⟨S2048x2048, .f32⟩) main_v26) (TRef.of (T := ⟨S2048x2048, .f32⟩) main_call0_v5) (TRef.of (T := ⟨S2048x2048, .f32⟩) main_v27) select,
    unary main_v27 main_v28 (broadcastInDim S1x2048x2048 ![1, 2] bcast_S2048x2048_S1x2048x2048_1_2 : A F S2048x2048 → A F S1x2048x2048),
    unary main_arg1 main_v29 (broadcastInDim S2x1x2048 ![0, 2] bcast_S2x2048_S2x1x2048_0_2 : A F S2x2048 → A F S2x1x2048),
    unary main_v28 main_v30 (broadcastInDim S2x2048x2048 ![0, 1, 2] bcast_S1x2048x2048_S2x2048x2048_0_1_2 : A F S1x2048x2048 → A F S2x2048x2048),
    unary main_v29 main_v31 (broadcastInDim S2x2048x2048 ![0, 1, 2] bcast_S2x1x2048_S2x2048x2048_0_1_2 : A F S2x1x2048 → A F S2x2048x2048),
    binary main_v30 main_v31 main_v32 (mulf : A F S2x2048x2048 → A F S2x2048x2048 → A F S2x2048x2048),
    unary main_v32 main_v33 (broadcastInDim S2x1x2048x2048 ![0, 2, 3] bcast_S2x2048x2048_S2x1x2048x2048_0_2_3 : A F S2x2048x2048 → A F S2x1x2048x2048),
    nullary main_cst_2 (constant S_ .f32 0x00000000#32),
    unary main_cst_2 main_v34 (broadcastInDim S2x1x2048x2048 ![] bcast_S_S2x1x2048x2048 : A F S_ → A F S2x1x2048x2048),
    binary main_v33 main_v34 main_v35 (cmpf .ogt : A F S2x1x2048x2048 → A F S2x1x2048x2048 → B1 F S2x1x2048x2048) ]

/-- What they write. -/
abbrev opsM_W : List (Ref sig .tc) := [main_cst_1, main_v26, main_call0_v0, main_call0_c, main_call0_v1, main_call0_v2, main_call0_v3, main_call0_v4, main_call0_cst, main_call0_v5, main_v27, main_v28, main_v29, main_v30, main_v31, main_v32, main_v33, main_cst_2, main_v34, main_v35]

/-- The operations of the mask leave every other array as it was. -/
theorem opsM_of (V : Valuation τ sig (Elt F)) (r : Ref sig .tc) (h : r ∉ opsM_W) : after opsM V (Proc.devRef .tc r) = V (Proc.devRef .tc r) :=
  after_of_writes_sub opsM V (forall_writes_sub_of_map rfl) h

/-- The operations of the masked scores. -/
noncomputable abbrev opsW : List (HloOp τ sig (Elt F)) :=
  [ nullary main_cst_3 (constant S_ .f32 0xFF800000#32),
    TRef.unary (TRef.of (T := ⟨S_, .f32⟩) main_cst_3) (TRef.of (T := ⟨S_, .f32⟩) main_call1_v0) id,
    TRef.unary (TRef.of (T := ⟨S2x1x2048x2048, .i1⟩) main_v35) (TRef.of (T := ⟨S2x16x2048x2048, .i1⟩) main_call1_v1) (broadcastInDim S2x16x2048x2048 ![0, 1, 2, 3] bcast_S2x1x2048x2048_S2x16x2048x2048_0_1_2_3),
    TRef.unary (TRef.of (T := ⟨S_, .f32⟩) main_call1_v0) (TRef.of (T := ⟨S2x16x2048x2048, .f32⟩) main_call1_v2) (broadcastInDim S2x16x2048x2048 ![] bcast_S_S2x16x2048x2048),
    TRef.ternary (TRef.of (T := ⟨S2x16x2048x2048, .i1⟩) main_call1_v1) (TRef.of (T := ⟨S2x16x2048x2048, .f32⟩) main_v25) (TRef.of (T := ⟨S2x16x2048x2048, .f32⟩) main_call1_v2) (TRef.of (T := ⟨S2x16x2048x2048, .f32⟩) main_v36) select ]

/-- What they write. -/
abbrev opsW_W : List (Ref sig .tc) := [main_cst_3, main_call1_v0, main_call1_v1, main_call1_v2, main_v36]

/-- The operations of the masked scores leave every other array as it was. -/
theorem opsW_of (V : Valuation τ sig (Elt F)) (r : Ref sig .tc) (h : r ∉ opsW_W) : after opsW V (Proc.devRef .tc r) = V (Proc.devRef .tc r) :=
  after_of_writes_sub opsW V (forall_writes_sub_of_map rfl) h

/-- The operations of the softmax. -/
noncomputable abbrev opsP : List (HloOp τ sig (Elt F)) :=
  [ nullary main_cst_4 (constant S_ .f32 0xFF800000#32),
    binary main_v36 main_cst_4 main_v37 ((fun x v => Host.reduce FloatOps.maximumf x v reducesTo_S2x16x2048x2048_S2x16x2048_d3 h_S_) : A F S2x16x2048x2048 → A F S_ → A F S2x16x2048),
    nullary main_cst_5 (constant S_ .f32 0xFF800000#32),
    unary main_cst_5 main_v38 (broadcastInDim S2x16x2048 ![] bcast_S_S2x16x2048 : A F S_ → A F S2x16x2048),
    binary main_v38 main_v37 main_v39 (maximumf : A F S2x16x2048 → A F S2x16x2048 → A F S2x16x2048),
    unary main_v39 main_v40 (broadcastInDim S2x16x2048x1 ![0, 1, 2] bcast_S2x16x2048_S2x16x2048x1_0_1_2 : A F S2x16x2048 → A F S2x16x2048x1),
    unary main_v40 main_v41 (broadcastInDim S2x16x2048x2048 ![0, 1, 2, 3] bcast_S2x16x2048x1_S2x16x2048x2048_0_1_2_3 : A F S2x16x2048x1 → A F S2x16x2048x2048),
    binary main_v36 main_v41 main_v42 (subf : A F S2x16x2048x2048 → A F S2x16x2048x2048 → A F S2x16x2048x2048),
    unary main_v42 main_v43 (Host.exp : A F S2x16x2048x2048 → A F S2x16x2048x2048),
    nullary main_cst_6 (constant S_ .f32 0x00000000#32),
    binary main_v43 main_cst_6 main_v44 ((fun x v => Host.reduceAdd x v reducesTo_S2x16x2048x2048_S2x16x2048_d3 h_S_) : A F S2x16x2048x2048 → A F S_ → A F S2x16x2048),
    unary main_v44 main_v45 (broadcastInDim S2x16x2048x1 ![0, 1, 2] bcast_S2x16x2048_S2x16x2048x1_0_1_2 : A F S2x16x2048 → A F S2x16x2048x1),
    unary main_v45 main_v46 (broadcastInDim S2x16x2048x2048 ![0, 1, 2, 3] bcast_S2x16x2048x1_S2x16x2048x2048_0_1_2_3 : A F S2x16x2048x1 → A F S2x16x2048x2048),
    binary main_v43 main_v46 main_v47 (Host.divf : A F S2x16x2048x2048 → A F S2x16x2048x2048 → A F S2x16x2048x2048) ]

/-- What they write. -/
abbrev opsP_W : List (Ref sig .tc) := [main_cst_4, main_v37, main_cst_5, main_v38, main_v39, main_v40, main_v41, main_v42, main_v43, main_cst_6, main_v44, main_v45, main_v46, main_v47]

/-- The operations of the weights leave every other array as it was. -/
theorem opsP_of (V : Valuation τ sig (Elt F)) (r : Ref sig .tc) (h : r ∉ opsP_W) : after opsP V (Proc.devRef .tc r) = V (Proc.devRef .tc r) :=
  after_of_writes_sub opsP V (forall_writes_sub_of_map rfl) h

/-- The operations of the output. -/
noncomputable abbrev opsO : List (HloOp τ sig (Elt F)) :=
  [ binary main_v47 main_v22 main_v48 ((fun l r => Host.dotGeneral dot_S2x16x2048x2048_S2x16x2048x64_S2x16x2048x64_3_2_2_3_01_01 none l r) : A F S2x16x2048x2048 → A F S2x16x2048x64 → A F S2x16x2048x64),
    unary main_v48 main_v49 ((transpose S2x2048x16x64 [0, 2, 1, 3] · transposes_S2x16x2048x64_S2x2048x16x64_0_2_1_3) : A F S2x16x2048x64 → A F S2x2048x16x64),
    reshape main_v49 main_v50 (rfl : (.f32 : EltTy) = .f32) shapeCasts_S2x2048x16x64_S2x2048x1024,
    unary main_arg8 main_v51 ((transpose S1024x1024 [1, 0] · transposes_S1024x1024_S1024x1024_1_0) : A F S1024x1024 → A F S1024x1024),
    binary main_v50 main_v51 main_v52 ((fun l r => Host.dotGeneral dot_S2x2048x1024_S1024x1024_S2x2048x1024_2_0_01_1_n_n none l r) : A F S2x2048x1024 → A F S1024x1024 → A F S2x2048x1024),
    unary main_arg9 main_v53 (broadcastInDim S1x1x1024 ![2] bcast_S1024_S1x1x1024_2 : A F S1024 → A F S1x1x1024),
    unary main_v53 main_v54 (broadcastInDim S2x2048x1024 ![0, 1, 2] bcast_S1x1x1024_S2x2048x1024_0_1_2 : A F S1x1x1024 → A F S2x2048x1024),
    binary main_v52 main_v54 main_v55 (addf : A F S2x2048x1024 → A F S2x2048x1024 → A F S2x2048x1024) ]

/-- What they write. -/
abbrev opsO_W : List (Ref sig .tc) := [main_v48, main_v49, main_v50, main_v51, main_v52, main_v53, main_v54, main_v55]

/-- The operations of the result leave every other array as it was. -/
theorem opsO_of (V : Valuation τ sig (Elt F)) (r : Ref sig .tc) (h : r ∉ opsO_W) : after opsO V (Proc.devRef .tc r) = V (Proc.devRef .tc r) :=
  after_of_writes_sub opsO V (forall_writes_sub_of_map rfl) h

/-- The whole of the reference, stage by stage. -/
noncomputable abbrev ops : List (HloOp τ sig (Elt F)) := opsQ ++ opsK ++ opsV ++ opsC ++ opsS ++ opsM ++ opsW ++ opsP ++ opsO

/-- Two stretches one after the other. -/
theorem after_two (k l : List (HloOp τ sig (Elt F))) (V : Valuation τ sig (Elt F)) : after (k ++ l) V = after l (after k V) := by
  induction k generalizing V with
  | nil => rfl
  | cons o k ih => exact ih (o.result V)

set_option maxHeartbeats 4000000 in
/-- The reference is its list of operations, run in order. -/
theorem main_eq (c : Dev nD) : main (F := F) c = seq ops := rfl
/-- The reference has no scoped arrays. -/
theorem refs_none : (Finset.univ.filter fun b : Ref sig .tc => b.isScoped) = ∅ := by decide
/-- The reference has no scoped semaphores. -/
theorem sems_none : (Finset.univ.filter fun sm : SemLoc sig => sm.isScoped .tc) = ∅ := by decide
/-- The operations touch only arrays of the reference. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., reshape_bufs_sub .., unary_bufs_sub .., ternary_bufs_sub .., ternary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., unary_bufs_sub .., binary_bufs_sub .., unary_bufs_sub .., nullary_bufs_sub .., unary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub .., binary_bufs_sub .., unary_bufs_sub .., unary_bufs_sub .., binary_bufs_sub ..⟩

end Cert.ReferenceIdeal.Steps
end
-- ==== Proof.RefRun.lean ====
module
public import proofs.«01_k».proof.Proof.RefOps
@[expose] public section
set_option maxRecDepth 16384
noncomputable section
namespace Cert.ReferenceIdeal.Steps
open Cert.ReferenceIdeal Cert.ReferenceIdeal.Gen Idealize.ShloMosaic Idealize.ShloMosaic.TcCoe Idealize.SL.Sem Idealize.ShloMosaic.StableHlo

variable {F : FTy → Type} [FloatOps F]

/-- The heads `x wᵀ + b`, laid out batch, head, row, lane. -/
def heads (x : FVec F S2x2048x1024 .f32) (w : FVec F S1024x1024 .f32) (b : FVec F S1024 .f32) : FVec F S2x16x2048x64 .f32 :=
  transpose S2x16x2048x64 [0, 2, 1, 3] (shapeCast S2x2048x16x64 (addf (Host.dotGeneral dot_S2x2048x1024_S1024x1024_S2x2048x1024_2_0_01_1_n_n none x
    (transpose S1024x1024 [1, 0] w transposes_S1024x1024_S1024x1024_1_0))
    (broadcastInDim S2x2048x1024 ![0, 1, 2] bcast_S1x1x1024_S2x2048x1024_0_1_2 (broadcastInDim S1x1x1024 ![2] bcast_S1024_S1x1x1024_2 b)))
    shapeCasts_S2x2048x1024_S2x2048x16x64) transposes_S2x2048x16x64_S2x16x2048x64_0_2_1_3

/-- A cache after all of it is written. -/
def cached (x u : FVec F S2x16x2048x64 .f32) : FVec F S2x16x2048x64 .f32 :=
  Host.scatter scatter_S2x16x2048x64_S0_S2x16x2048x64_0123_n_n_0 (fun _ b => b) x (emptyVec S0 hz_S0 : IVec S0 32) u

/-- The products of queries and keys, divided by eight. -/
def scoresOf (q k : FVec F S2x16x2048x64 .f32) : FVec F S2x16x2048x2048 .f32 :=
  Host.divf (Host.dotGeneral dot_S2x16x2048x64_S2x16x2048x64_S2x16x2048x2048_3_3_2_2_01_01 none q k)
    (broadcastInDim S2x16x2048x2048 ![] bcast_S_S2x16x2048x2048 (constant S_ .f32 0x41000000#32))

/-- The lower triangle of ones. -/
def trilOf : FVec F S2048x2048 .f32 :=
  select (cmpi .sge (addi (iotaInDim S2048x2048 32 0) (broadcastInDim S2048x2048 ![] bcast_S_S2048x2048 (constantI S_ 32 0#32))) (iotaInDim S2048x2048 32 1))
    (broadcastInDim S2048x2048 ![] bcast_S_S2048x2048 (constant S_ .f32 0x3F800000#32))
    (broadcastInDim S2048x2048 ![] bcast_S_S2048x2048 (constant S_ .f32 0x00000000#32))

/-- Where the triangle times the mask is positive. -/
def seenOf (a : FVec F S2x2048 .f32) : IVec S2x1x2048x2048 1 :=
  cmpf .ogt (broadcastInDim S2x1x2048x2048 ![0, 2, 3] bcast_S2x2048x2048_S2x1x2048x2048_0_2_3
      (mulf (broadcastInDim S2x2048x2048 ![0, 1, 2] bcast_S1x2048x2048_S2x2048x2048_0_1_2 (broadcastInDim S1x2048x2048 ![1, 2] bcast_S2048x2048_S1x2048x2048_1_2 (trilOf (F := F))))
        (broadcastInDim S2x2048x2048 ![0, 1, 2] bcast_S2x1x2048_S2x2048x2048_0_1_2 (broadcastInDim S2x1x2048 ![0, 2] bcast_S2x2048_S2x1x2048_0_2 a))))
    (broadcastInDim S2x1x2048x2048 ![] bcast_S_S2x1x2048x2048 (constant S_ .f32 0x00000000#32))

/-- The scores where they are seen, −∞ elsewhere. -/
def maskedOf (s : FVec F S2x16x2048x2048 .f32) (a : IVec S2x1x2048x2048 1) : FVec F S2x16x2048x2048 .f32 :=
  select (broadcastInDim S2x16x2048x2048 ![0, 1, 2, 3] bcast_S2x1x2048x2048_S2x16x2048x2048_0_1_2_3 a) s
    (broadcastInDim S2x16x2048x2048 ![] bcast_S_S2x16x2048x2048 (constant S_ .f32 0xFF800000#32))

/-- The largest score of each row, folded from −∞. -/
def topOf (z : FVec F S2x16x2048x2048 .f32) : FVec F S2x16x2048 .f32 :=
  Host.reduce FloatOps.maximumf z (constant S_ .f32 0xFF800000#32) reducesTo_S2x16x2048x2048_S2x16x2048_d3 h_S_

/-- The largest score of each row, again against −∞. -/
def rowMax (z : FVec F S2x16x2048x2048 .f32) : FVec F S2x16x2048 .f32 :=
  maximumf (broadcastInDim S2x16x2048 ![] bcast_S_S2x16x2048 (constant S_ .f32 0xFF800000#32)) (topOf z)

/-- A number of each row, at every column. -/
def spread (v : FVec F S2x16x2048 .f32) : FVec F S2x16x2048x2048 .f32 :=
  broadcastInDim S2x16x2048x2048 ![0, 1, 2, 3] bcast_S2x16x2048x1_S2x16x2048x2048_0_1_2_3
    (broadcastInDim S2x16x2048x1 ![0, 1, 2] bcast_S2x16x2048_S2x16x2048x1_0_1_2 v)

/-- The exponentials of the scores less the row's largest. -/
def expsOf (z : FVec F S2x16x2048x2048 .f32) : FVec F S2x16x2048x2048 .f32 := Host.exp (subf z (spread (rowMax z)))

/-- The softmax of each row. -/
def softOf (z : FVec F S2x16x2048x2048 .f32) : FVec F S2x16x2048x2048 .f32 :=
  Host.divf (expsOf z) (spread (Host.reduceAdd (expsOf z) (constant S_ .f32 0x00000000#32) reducesTo_S2x16x2048x2048_S2x16x2048_d3 h_S_))

/-- The heads' rows from the weights and the values. -/
def attOf (p : FVec F S2x16x2048x2048 .f32) (v : FVec F S2x16x2048x64 .f32) : FVec F S2x16x2048x64 .f32 :=
  Host.dotGeneral dot_S2x16x2048x2048_S2x16x2048x64_S2x16x2048x64_3_2_2_3_01_01 none p v

/-- The heads side by side, through the last projection. -/
def joined (a : FVec F S2x16x2048x64 .f32) (w : FVec F S1024x1024 .f32) (b : FVec F S1024 .f32) : FVec F S2x2048x1024 .f32 :=
  addf (Host.dotGeneral dot_S2x2048x1024_S1024x1024_S2x2048x1024_2_0_01_1_n_n none
      (shapeCast S2x2048x1024 (transpose S2x2048x16x64 [0, 2, 1, 3] a transposes_S2x16x2048x64_S2x2048x16x64_0_2_1_3) shapeCasts_S2x2048x16x64_S2x2048x1024)
      (transpose S1024x1024 [1, 0] w transposes_S1024x1024_S1024x1024_1_0))
    (broadcastInDim S2x2048x1024 ![0, 1, 2] bcast_S1x1x1024_S2x2048x1024_0_1_2 (broadcastInDim S1x1x1024 ![2] bcast_S1024_S1x1x1024_2 b))

/-- Each stage, from any contents of the buffers. -/
theorem q_of (V : Valuation τ sig (Elt F)) : after opsQ V main_v6 = heads (V main_arg0) (V main_arg2) (V main_arg3) := by
  simp only [opsQ]; after_results_simp <;> rfl
/-- The update of the key cache starts at the empty index. -/
theorem c_of (V : Valuation τ sig (Elt F)) : after opsQ V main_c = (emptyVec S0 hz_S0 : IVec S0 32) := by
  simp only [opsQ]; after_results_simp <;> rfl
/-- The update of the value cache starts at the empty index. -/
theorem c0_of (V : Valuation τ sig (Elt F)) : after opsQ V main_c_0 = (emptyVec S0 hz_S0 : IVec S0 32) := by
  simp only [opsQ]; after_results_simp <;> rfl
/-- After their operations the keys are the heads of the second projection. -/
theorem k_of (V : Valuation τ sig (Elt F)) : after opsK V main_v13 = heads (V main_arg0) (V main_arg4) (V main_arg5) := by
  simp only [opsK]; after_results_simp <;> rfl
/-- After their operations the values are the heads of the third projection. -/
theorem v_of (V : Valuation τ sig (Elt F)) : after opsV V main_v20 = heads (V main_arg0) (V main_arg6) (V main_arg7) := by
  simp only [opsV]; after_results_simp <;> rfl
/-- The key cache after its update. -/
theorem kc_of (V : Valuation τ sig (Elt F)) (h : V main_c = (emptyVec S0 hz_S0 : IVec S0 32)) :
    after opsC V main_v21 = cached (V main_arg10) (V main_v13) := by
  simp only [opsC]; after_results_simp; rw [h]; rfl
/-- The value cache after its update. -/
theorem vc_of (V : Valuation τ sig (Elt F)) (h : V main_c_0 = (emptyVec S0 hz_S0 : IVec S0 32)) :
    after opsC V main_v22 = cached (V main_arg11) (V main_v20) := by
  simp only [opsC]; after_results_simp; rw [h]; rfl
/-- The scores after their operations. -/
theorem s_of (V : Valuation τ sig (Elt F)) : after opsS V main_v25 = scoresOf (V main_v6) (V main_v21) := by
  simp only [opsS]; after_results_simp <;> rfl
/-- The mask, causal and by keys, after its operations. -/
theorem m_of (V : Valuation τ sig (Elt F)) : after opsM V main_v35 = seenOf (V main_arg1) := by
  simp only [opsM, TRef.binary, TRef.nullary, TRef.ternary, TRef.unary, TRef.toBuf, TRef.ofBuf, cast_eq]; after_results_simp <;> rfl
/-- The masked scores after their operation. -/
theorem w_of (V : Valuation τ sig (Elt F)) : after opsW V main_v36 = maskedOf (V main_v25) (V main_v35) := by
  simp only [opsW, TRef.binary, TRef.nullary, TRef.ternary, TRef.unary, TRef.toBuf, TRef.ofBuf, cast_eq]; after_results_simp <;> rfl
/-- The weights after the operations of the softmax. -/
theorem p_of (V : Valuation τ sig (Elt F)) : after opsP V main_v47 = softOf (V main_v36) := by
  simp only [opsP]; after_results_simp <;> rfl
/-- The result after the operations of the last projection. -/
theorem o_of (V : Valuation τ sig (Elt F)) : after opsO V main_v55 = joined (attOf (V main_v47) (V main_v22)) (V main_arg8) (V main_arg9) := by
  simp only [opsO]; after_results_simp <;> rfl

/-- No stage writes `r`. -/
abbrev Kept (r : Ref sig .tc) : Prop := r ∉ opsQ_W ++ opsK_W ++ opsV_W ++ opsC_W ++ opsS_W ++ opsM_W ++ opsW_W ++ opsP_W ++ opsO_W

/-- No operation writes an argument. -/
theorem kept (V : Valuation τ sig (Elt F)) (r : Ref sig .tc) (h : Kept r) : after ops V (Proc.devRef .tc r) = V (Proc.devRef .tc r) := by
  simp only [Kept, List.mem_append, not_or] at h
  obtain ⟨⟨⟨⟨⟨⟨⟨⟨h1, h2⟩, h3⟩, h4⟩, h5⟩, h6⟩, h7⟩, h8⟩, h9⟩ := h
  simp only [ops, after_two]
  rw [opsO_of _ _ h9, opsP_of _ _ h8, opsW_of _ _ h7, opsM_of _ _ h6, opsS_of _ _ h5, opsC_of _ _ h4, opsV_of _ _ h3, opsK_of _ _ h2, opsQ_of _ _ h1]

/-- The key cache, from the arguments. -/
theorem keys_of (V : Valuation τ sig (Elt F)) : after opsC (after opsV (after opsK (after opsQ V))) main_v21
    = cached (V main_arg10) (heads (V main_arg0) (V main_arg4) (V main_arg5)) := by
  rw [kc_of _ (by rw [opsV_of _ main_c (by decide), opsK_of _ main_c (by decide), c_of])]
  rw [opsV_of _ main_arg10 (by decide), opsK_of _ main_arg10 (by decide), opsQ_of _ main_arg10 (by decide), opsV_of _ main_v13 (by decide), k_of,
    opsQ_of _ main_arg0 (by decide), opsQ_of _ main_arg4 (by decide), opsQ_of _ main_arg5 (by decide)]
/-- The value cache, from the arguments. -/
theorem vals_of (V : Valuation τ sig (Elt F)) : after opsC (after opsV (after opsK (after opsQ V))) main_v22
    = cached (V main_arg11) (heads (V main_arg0) (V main_arg6) (V main_arg7)) := by
  rw [vc_of _ (by rw [opsV_of _ main_c_0 (by decide), opsK_of _ main_c_0 (by decide), c0_of])]
  rw [opsV_of _ main_arg11 (by decide), opsK_of _ main_arg11 (by decide), opsQ_of _ main_arg11 (by decide), v_of,
    opsK_of _ main_arg0 (by decide), opsK_of _ main_arg6 (by decide), opsK_of _ main_arg7 (by decide),
    opsQ_of _ main_arg0 (by decide), opsQ_of _ main_arg6 (by decide), opsQ_of _ main_arg7 (by decide)]
/-- The queries, from the arguments. -/
theorem queries_of (V : Valuation τ sig (Elt F)) : after opsC (after opsV (after opsK (after opsQ V))) main_v6
    = heads (V main_arg0) (V main_arg2) (V main_arg3) := by
  rw [opsC_of _ main_v6 (by decide), opsV_of _ main_v6 (by decide), opsK_of _ main_v6 (by decide), q_of]

/-- The second result. -/
theorem v21_of (V : Valuation τ sig (Elt F)) : after ops V main_v21 = cached (V main_arg10) (heads (V main_arg0) (V main_arg4) (V main_arg5)) := by
  simp only [ops, after_two]
  rw [opsO_of _ main_v21 (by decide), opsP_of _ main_v21 (by decide), opsW_of _ main_v21 (by decide), opsM_of _ main_v21 (by decide), opsS_of _ main_v21 (by decide), keys_of]
/-- The third result. -/
theorem v22_of (V : Valuation τ sig (Elt F)) : after ops V main_v22 = cached (V main_arg11) (heads (V main_arg0) (V main_arg6) (V main_arg7)) := by
  simp only [ops, after_two]
  rw [opsO_of _ main_v22 (by decide), opsP_of _ main_v22 (by decide), opsW_of _ main_v22 (by decide), opsM_of _ main_v22 (by decide), opsS_of _ main_v22 (by decide), vals_of]

/-- An argument is what it was, after the first four stages. -/
theorem arg_of (V : Valuation τ sig (Elt F)) (r : Ref sig .tc) (h : r ∉ opsQ_W ++ opsK_W ++ opsV_W ++ opsC_W) :
    after opsC (after opsV (after opsK (after opsQ V))) (Proc.devRef .tc r) = V (Proc.devRef .tc r) := by
  simp only [List.mem_append, not_or] at h
  obtain ⟨⟨⟨h1, h2⟩, h3⟩, h4⟩ := h
  rw [opsC_of _ _ h4, opsV_of _ _ h3, opsK_of _ _ h2, opsQ_of _ _ h1]

/-- The first result. -/
theorem v55_of (V : Valuation τ sig (Elt F)) : after ops V main_v55
    = joined (attOf (softOf (maskedOf (scoresOf (heads (V main_arg0) (V main_arg2) (V main_arg3)) (cached (V main_arg10) (heads (V main_arg0) (V main_arg4) (V main_arg5)))) (seenOf (V main_arg1))))
        (cached (V main_arg11) (heads (V main_arg0) (V main_arg6) (V main_arg7)))) (V main_arg8) (V main_arg9) := by
  simp only [ops, after_two]
  rw [o_of, p_of, w_of]
  rw [opsM_of _ main_v25 (by decide), s_of, m_of, queries_of, keys_of, opsS_of _ main_arg1 (by decide), arg_of _ main_arg1 (by decide)]
  rw [opsP_of _ main_v22 (by decide), opsW_of _ main_v22 (by decide), opsM_of _ main_v22 (by decide), opsS_of _ main_v22 (by decide), vals_of]
  rw [opsP_of _ main_arg8 (by decide), opsW_of _ main_arg8 (by decide), opsM_of _ main_arg8 (by decide), opsS_of _ main_arg8 (by decide), arg_of _ main_arg8 (by decide)]
  rw [opsP_of _ main_arg9 (by decide), opsW_of _ main_arg9 (by decide), opsM_of _ main_arg9 (by decide), opsS_of _ main_arg9 (by decide), arg_of _ main_arg9 (by decide)]

/-- The reference's run: its three results as functions of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = joined (attOf (softOf (maskedOf (scoresOf (heads (m ((c.tc : Thread nD τ).loc main_arg0)) (m ((c.tc : Thread nD τ).loc main_arg2)) (m ((c.tc : Thread nD τ).loc main_arg3)))
            (cached (m ((c.tc : Thread nD τ).loc main_arg10)) (heads (m ((c.tc : Thread nD τ).loc main_arg0)) (m ((c.tc : Thread nD τ).loc main_arg4)) (m ((c.tc : Thread nD τ).loc main_arg5)))))
            (seenOf (m ((c.tc : Thread nD τ).loc main_arg1)))))
          (cached (m ((c.tc : Thread nD τ).loc main_arg11)) (heads (m ((c.tc : Thread nD τ).loc main_arg0)) (m ((c.tc : Thread nD τ).loc main_arg6)) (m ((c.tc : Thread nD τ).loc main_arg7)))))
          (m ((c.tc : Thread nD τ).loc main_arg8)) (m ((c.tc : Thread nD τ).loc main_arg9))
      ∧ r.2.mem ((c.tc : Thread nD τ).loc main_v21)
        = cached (m ((c.tc : Thread nD τ).loc main_arg10)) (heads (m ((c.tc : Thread nD τ).loc main_arg0)) (m ((c.tc : Thread nD τ).loc main_arg4)) (m ((c.tc : Thread nD τ).loc main_arg5)))
      ∧ r.2.mem ((c.tc : Thread nD τ).loc main_v22)
        = cached (m ((c.tc : Thread nD τ).loc main_arg11)) (heads (m ((c.tc : Thread nD τ).loc main_arg0)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v55).trans (v55_of _), (h c main_v21).trans (v21_of _), (h c main_v22).trans (v22_of _),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide)),
      (h c main_arg11).trans (kept _ main_arg11 (by decide))⟩)
    (run_seq refs_none sems_none defs main (fun _ => ops) main_eq (fun _ => ops_sub) m ρ)

end Cert.ReferenceIdeal.Steps
end
-- ==== Proof.RefVal.lean ====
module
public import proofs.«01_k».proof.Proof.RefRun
public import Idealize.ShloMosaic.Lib.Pointwise
public import Idealize.ShloMosaic.Lib.Pipeline.ValueKit
public import Idealize.ShloMosaic.Lib.WordCmp
public import Idealize.ShloMosaic.Lib.Routing.OpsSet
public import Idealize.ShloMosaic.Lib.Routing.OpsPair
@[expose] public section
set_option maxRecDepth 16384
noncomputable section
namespace Cert.ReferenceIdeal.Steps
open Cert.ReferenceIdeal Cert.ReferenceIdeal.Gen Idealize.ShloMosaic

/-- A head's entry: the row of `x` against the weight's row, plus the bias. -/
theorem heads_at (x : FVec Ideal S2x2048x1024 .f32) (w : FVec Ideal S1024x1024 .f32) (b : FVec Ideal S1024 .f32)
    (i : Fin 2) (h : Fin 16) (r : Fin 2048) (d : Fin 64) :
    heads x w b (ix4 i h r d) = (∑ e : Fin 1024, x (ix3 i r e) * w (ix2 ⟨64 * h.val + d.val, by omega⟩ e)) + b (ix1 ⟨64 * h.val + d.val, by omega⟩) := by
  unfold heads
  pointwise
  simp only [Nat.mul_comm h.val 64]

/-- A cache all of which is written holds what was written. -/
theorem cached_eq (x u : FVec Ideal S2x16x2048x64 .f32) : cached x u = u := by
  funext j
  have key : ∀ k, scatter_S2x16x2048x64_S0_S2x16x2048x64_0123_n_n_0.resultIdx? k (emptyVec S0 hz_S0 : IVec S0 32) = some j ↔ k = j := by
    intro k
    rw [Routing.resultIdx?_eq_some]
    have e : ∀ a, scatter_S2x16x2048x64_S0_S2x16x2048x64_0123_n_n_0.start k (emptyVec S0 hz_S0 : IVec S0 32) a
        + (scatter_S2x16x2048x64_S0_S2x16x2048x64_0123_n_n_0.window k a : Int) = ((k a).val : Int) := by
      intro a
      match a with
      | ⟨0, _⟩ => exact Int.zero_add _
      | ⟨1, _⟩ => exact Int.zero_add _
      | ⟨2, _⟩ => exact Int.zero_add _
      | ⟨3, _⟩ => exact Int.zero_add _
    constructor
    · intro q
      funext a
      have := q a
      rw [e a] at this
      exact Fin.ext (by omega)
    · intro q a
      rw [e a, q]
  exact Routing.scatter_set_hit _ _ _ _ j (u j) (fun k hk => by rw [(key k).1 hk]) j ((key j).2 rfl)

/-- The word of −∞. -/
theorem ninf : Ideal.ofBits .f32 0xFF800000#32 = ⊥ := by simp [Ideal.ofBits, Ideal.ieee]

/-- A score: the product over the 64 lanes, divided by eight. -/
theorem scores_at (q k : FVec Ideal S2x16x2048x64 .f32) (i : Fin 2) (h : Fin 16) (r t : Fin 2048) :
    scoresOf q k (ix4 i h r t) = Ideal.div (∑ d : Fin 64, q (ix4 i h r d) * k (ix4 i h t d)) (Ideal.ofBits .f32 0x41000000#32) := by
  unfold scoresOf
  pointwise

/-- The comparison of a row and a column, on words. -/
theorem seen_step (r t : Fin 2048) (one : EReal) (h1 : one = 1) : (BitVec.ofBool
      (decide
        ((0 : EReal) <
          Scalar.select (IntOp.cmpi CmpIPredicate.sge (IntOp.addi (BitVec.ofNat 32 ↑r) 0#32) (BitVec.ofNat 32 ↑t))
            one 0))) =
    if t.val ≤ r.val then 1#1 else 0#1 := by
  have hr := r.isLt
  have ht := t.isLt
  rw [show IntOp.addi (BitVec.ofNat 32 r.val) 0#32 = BitVec.ofNat 32 r.val from BitVec.add_zero _]
  simp (disch := omega) only [hlo_ix]
  subst h1
  by_cases h : t.val ≤ r.val
  · simp [h]
  · simp [h]

/-- With a mask of ones, a row sees the columns up to its own. -/
theorem seen_at (a : FVec Ideal S2x2048 .f32) (ha : ∀ i r, a (ix2 i r) = 1) (i : Fin 2) (r t : Fin 2048) :
    seenOf a (ix4 i 0 r t) = if t.val ≤ r.val then 1#1 else 0#1 := by
  unfold seenOf trilOf
  pointwise
  exact seen_step r t _ (ha i t)

/-- A masked score. -/
theorem masked_at (s : FVec Ideal S2x16x2048x2048 .f32) (a : IVec S2x1x2048x2048 1) (i : Fin 2) (h : Fin 16) (r t : Fin 2048) :
    maskedOf s a (ix4 i h r t) = Scalar.select (a (ix4 i 0 r t)) (s (ix4 i h r t)) (Ideal.ofBits .f32 0xFF800000#32) := by
  unfold maskedOf
  pointwise

/-- A reduction over the last axis, as the fold over it. -/
theorem red_at {α : Type} (op : α → α → α) [Std.Commutative op] [Std.Associative op] (z : S2x16x2048x2048.Idx → α) (v : S_.Idx → α)
    (i : Fin 2) (h : Fin 16) (r : Fin 2048) :
    Host.reduce op z v reducesTo_S2x16x2048x2048_S2x16x2048_d3 h_S_ (ix3 i h r)
      = Finset.univ.fold op (v (Shape.Idx.first h_S_)) fun t : Fin 2048 => z (ix4 i h r t) := by
  rw [Host.reduce_eq_fold, Shape.ReducesTo.fold_fiber_r4_a3]
  rfl

/-- The fold of the maximum from −∞ is the supremum. -/
theorem fold_sup {n : Nat} (f : Fin n → EReal) (v : S_.Idx → EReal) (hv : v (Shape.Idx.first h_S_) = ⊥) :
    Finset.univ.fold (FloatOps.maximumf (F := Ideal) (φ := .f32)) (v (Shape.Idx.first h_S_)) f = Finset.univ.sup f := by
  rw [hv]; rfl

/-- The fold of a row. -/
theorem top_at1 (z : FVec Ideal S2x16x2048x2048 .f32) (i : Fin 2) (h : Fin 16) (r : Fin 2048) :
    topOf z (ix3 i h r) = Finset.univ.fold (FloatOps.maximumf (F := Ideal) (φ := .f32)) ((constant S_ .f32 0xFF800000#32 : FVec Ideal S_ .f32) (Shape.Idx.first h_S_)) fun t : Fin 2048 => z (ix4 i h r t) :=
  red_at _ z _ i h r
/-- The largest score of a row. -/
theorem top_at (z : FVec Ideal S2x16x2048x2048 .f32) (i : Fin 2) (h : Fin 16) (r : Fin 2048) :
    topOf z (ix3 i h r) = Finset.univ.sup fun t : Fin 2048 => z (ix4 i h r t) :=
  (top_at1 z i h r).trans (fold_sup _ _ ninf)
/-- The maximum with −∞, at an index. -/
theorem max_gen (y : FVec Ideal S2x16x2048 .f32) (i : Fin 2) (h : Fin 16) (r : Fin 2048) :
    maximumf (broadcastInDim S2x16x2048 ![] bcast_S_S2x16x2048 (constant S_ .f32 0xFF800000#32)) y (ix3 i h r) = max (Ideal.ofBits .f32 0xFF800000#32) (y (ix3 i h r)) := by
  pointwise
/-- The row maximum through the fold. -/
theorem max_at1 (z : FVec Ideal S2x16x2048x2048 .f32) (i : Fin 2) (h : Fin 16) (r : Fin 2048) :
    rowMax z (ix3 i h r) = max (Ideal.ofBits .f32 0xFF800000#32) (topOf z (ix3 i h r)) := by
  unfold rowMax
  exact max_gen (topOf z) i h r
/-- The row maximum is the supremum of the row. -/
theorem max_at (z : FVec Ideal S2x16x2048x2048 .f32) (i : Fin 2) (h : Fin 16) (r : Fin 2048) :
    rowMax z (ix3 i h r) = Finset.univ.sup fun t : Fin 2048 => z (ix4 i h r t) := by
  rw [max_at1, ninf, max_eq_right bot_le, top_at]

/-- An exponential. -/
theorem exps_at (z : FVec Ideal S2x16x2048x2048 .f32) (i : Fin 2) (h : Fin 16) (r t : Fin 2048) :
    expsOf z (ix4 i h r t) = Ideal.exp (z (ix4 i h r t) - rowMax z (ix3 i h r)) := by
  unfold expsOf spread
  pointwise

/-- A weight: an exponential over the sum of the row. -/
theorem soft_at (z : FVec Ideal S2x16x2048x2048 .f32) (i : Fin 2) (h : Fin 16) (r t : Fin 2048) :
    softOf z (ix4 i h r t) = Ideal.div (expsOf z (ix4 i h r t)) (∑ u : Fin 2048, expsOf z (ix4 i h r u)) := by
  unfold softOf spread
  pointwise

/-- A head entry: the weights against the values. -/
theorem att_at (p : FVec Ideal S2x16x2048x2048 .f32) (v : FVec Ideal S2x16x2048x64 .f32) (i : Fin 2) (h : Fin 16) (r : Fin 2048) (d : Fin 64) :
    attOf p v (ix4 i h r d) = ∑ t : Fin 2048, p (ix4 i h r t) * v (ix4 i h t d) := by
  unfold attOf
  pointwise

/-- A result entry: the heads side by side against a row of the weight, plus the bias. -/
theorem joined_at (a : FVec Ideal S2x16x2048x64 .f32) (w : FVec Ideal S1024x1024 .f32) (b : FVec Ideal S1024 .f32) (i : Fin 2) (r : Fin 2048) (n : Fin 1024) :
    joined a w b (ix3 i r n) = (∑ e : Fin 1024, a (ix4 i ⟨e.val / 64, by omega⟩ r ⟨e.val % 64, by omega⟩) * w (ix2 n e)) + b (ix1 n) := by
  unfold joined
  pointwise

end Cert.ReferenceIdeal.Steps
end
-- ==== Proof.Softmax.lean ====
module
public import proofs.«01_k».proof.Proof.RowSum
@[expose] public section
noncomputable section
open Idealize.ShloMosaic
namespace Cert.RowSum

/-- A number that is neither −∞ nor +∞. -/
def IsReal (x : EReal) : Prop := ∃ a : ℝ, x = (a : EReal)

/-- Sums of finite numbers are finite. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- Products of finite numbers are finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- Finite sums of finite numbers are finite. -/
theorem IsReal.sum {n : Nat} {f : Fin n → EReal} (h : ∀ t, IsReal (f t)) : IsReal (∑ t, f t) := by
  have : ∀ S : Finset (Fin n), IsReal (∑ t ∈ S, f t) := by
    intro S
    induction S using Finset.induction_on with
    | empty => exact ⟨0, by simp⟩
    | insert a S ha ih => rw [Finset.sum_insert ha]; exact (h a).add ih
  exact this _

/-- A finite constant that is not negative goes into a sum. -/
theorem sum_mul_const {n : Nat} (f : Fin n → EReal) (c : EReal) (h0 : 0 ≤ c) (ht : c ≠ ⊤) : (∑ t, f t) * c = ∑ t, f t * c := by
  have : ∀ S : Finset (Fin n), (∑ t ∈ S, f t) * c = ∑ t ∈ S, f t * c := by
    intro S
    induction S using Finset.induction_on with
    | empty => simp
    | insert a S ha ih => rw [Finset.sum_insert ha, Finset.sum_insert ha, EReal.right_distrib_of_nonneg_of_ne_top h0 ht, ih]
  exact this _

/-- The factor from natural exponents to powers of two. -/
def c2 : EReal := ((Real.log 2)⁻¹ : ℝ)

/-- The base-two logarithm of e is positive. -/
theorem c2_pos : (0 : ℝ) < (Real.log 2)⁻¹ := inv_pos.2 (Real.log_pos one_lt_two)

/-- A positive multiple of minus infinity is minus infinity. -/
theorem c2_bot : c2 * ⊥ = ⊥ := EReal.coe_mul_bot_of_pos c2_pos

/-- Scaling by that factor keeps the order. -/
theorem c2_mono : Monotone fun x : EReal => c2 * x := fun _ _ h => mul_le_mul_of_nonneg_left h (EReal.coe_nonneg.2 c2_pos.le)

/-- A supremum, scaled. -/
theorem c2_sup {n : Nat} (s : Fin n → EReal) : (Finset.univ.sup fun t => c2 * s t) = c2 * Finset.univ.sup s :=
  (Finset.comp_sup_eq_sup_comp_of_is_total (fun x : EReal => c2 * x) c2_mono c2_bot).symm

/-- A power of two of a scaled number is the exponential of the number. -/
theorem exp2_c2 (x : EReal) (hx : x = ⊥ ∨ IsReal x) (m : ℝ) : Ideal.exp2 (c2 * x - c2 * (m : EReal)) = Ideal.exp (x - (m : EReal)) := by
  rcases hx with rfl | ⟨a, rfl⟩
  · rw [c2_bot, bot_sub, bot_sub]; rfl
  · unfold c2
    rw [← EReal.coe_mul, ← EReal.coe_mul, ← EReal.coe_sub, ← EReal.coe_sub]
    show ((Real.rpow 2 _ : ℝ) : EReal) = ((Real.exp _ : ℝ) : EReal)
    have hl : Real.log 2 ≠ 0 := (Real.log_pos one_lt_two).ne'
    have h2 := Real.rpow_def_of_pos (x := 2) two_pos ((Real.log 2)⁻¹ * a - (Real.log 2)⁻¹ * m)
    rw [show Real.rpow 2 ((Real.log 2)⁻¹ * a - (Real.log 2)⁻¹ * m) = (2 : ℝ) ^ ((Real.log 2)⁻¹ * a - (Real.log 2)⁻¹ * m) from rfl, h2]
    congr 2
    field_simp

/-- The exponential of a number less a finite one is finite and not negative, and positive at a finite number. -/
theorem exp_real (x : EReal) (hx : x = ⊥ ∨ IsReal x) (m : ℝ) : ∃ e : ℝ, 0 ≤ e ∧ (IsReal x → 0 < e) ∧ Ideal.exp (x - (m : EReal)) = (e : EReal) := by
  rcases hx with rfl | ⟨a, rfl⟩
  · refine ⟨0, le_rfl, ?_, ?_⟩
    · rintro ⟨a, h⟩; exact absurd h.symm (EReal.coe_ne_bot a)
    · rw [bot_sub]; rfl
  · refine ⟨Real.exp (a - m), (Real.exp_pos _).le, fun _ => Real.exp_pos _, ?_⟩
    rw [← EReal.coe_sub]; rfl

/-- A supremum of numbers none of which is +∞, one of them finite, is finite. -/
theorem sup_real {n : Nat} (s : Fin n → EReal) (hs : ∀ t, s t = ⊥ ∨ IsReal (s t)) (t0 : Fin n) (h0 : IsReal (s t0)) :
    IsReal (Finset.univ.sup s) := by
  obtain ⟨t1, -, h1⟩ := Finset.exists_mem_eq_sup Finset.univ ⟨t0, Finset.mem_univ _⟩ s
  rw [h1]
  rcases hs t1 with h | h
  · obtain ⟨a, ha⟩ := h0
    have : s t0 ≤ ⊥ := by rw [← h, ← h1]; exact Finset.le_sup (Finset.mem_univ t0)
    rw [ha] at this
    exact absurd (le_bot_iff.1 this) (EReal.coe_ne_bot a)
  · exact h

/-- A row of attention: the weighted sum divided at the end, by powers of two of the scaled scores, is the softmax of the
    scores against the values. -/
theorem row_eq (s v : Fin 2048 → EReal) (hs : ∀ t, s t = ⊥ ∨ IsReal (s t)) (t0 : Fin 2048) (h0 : IsReal (s t0))
    (z w : ℕ → EReal) (hz : ∀ t : Fin 2048, z t = c2 * s t) (hw : ∀ t : Fin 2048, w t = v t) :
    rowAtt z w = ∑ t, Ideal.div (Ideal.exp (s t - Finset.univ.sup s)) (∑ u, Ideal.exp (s u - Finset.univ.sup s)) * v t := by
  obtain ⟨m, hm⟩ := sup_real s hs t0 h0
  have hsup : (Finset.range 2048).sup z = c2 * (m : EReal) := by
    rw [← hm, ← c2_sup]
    apply le_antisymm
    · refine Finset.sup_le fun t ht => ?_
      have h := Finset.mem_range.1 ht
      rw [hz ⟨t, h⟩]
      exact Finset.le_sup (f := fun t => c2 * s t) (Finset.mem_univ (⟨t, h⟩ : Fin 2048))
    · refine Finset.sup_le fun t _ => ?_
      rw [← hz t]
      exact Finset.le_sup (f := z) (Finset.mem_range.2 t.isLt)
  choose e he0 hep he using fun t => exp_real (s t) (hs t) m
  have hE : ∀ t : Fin 2048, Ideal.exp2 (z t - c2 * (m : EReal)) = (e t : EReal) := fun t => by rw [hz, exp2_c2 _ (hs t), he]
  have hL : IsReal (∑ u, (e u : EReal)) := IsReal.sum fun u => ⟨e u, rfl⟩
  unfold rowAtt
  rw [hsup, hm, Finset.sum_range, Finset.sum_range]
  simp only [hE, he, hw]
  obtain ⟨L, hLe⟩ := hL
  have hLpos : 0 < L := by
    have h1 : (e t0 : EReal) ≤ ∑ u, (e u : EReal) :=
      Finset.single_le_sum (f := fun u => (e u : EReal)) (fun u _ => EReal.coe_nonneg.2 (he0 u)) (Finset.mem_univ t0)
    rw [hLe] at h1
    exact lt_of_lt_of_le (hep t0 h0) (EReal.coe_le_coe_iff.1 h1)
  rw [hLe]
  have hd : ∀ x : EReal, Ideal.div x (L : EReal) = x * ((L⁻¹ : ℝ) : EReal) := by
    intro x
    unfold Ideal.div
    rw [if_neg (by exact_mod_cast hLpos.ne'), EReal.coe_inv]
  simp only [hd]
  rw [sum_mul_const _ _ (EReal.coe_nonneg.2 (inv_nonneg.2 hLpos.le)) (EReal.coe_ne_top _)]
  exact Finset.sum_congr rfl fun t _ => mul_right_comm _ _ _

end Cert.RowSum
end
-- ==== Proof.Equation.lean ====
module
public import proofs.«01_k».proof.Proof.KRun
public import proofs.«01_k».proof.Proof.RefVal
public import proofs.«01_k».proof.Proof.Softmax
@[expose] public section
set_option maxRecDepth 16384
noncomputable section
open Idealize.ShloMosaic
namespace Cert.Equation
open Cert.RowSum Cert.ReferenceIdeal.Steps Cert.KernelIdeal.Value
open Cert.KernelIdeal Cert.KernelIdeal.Gen

/-- The flattened rows of the input. -/
abbrev rows (x : FVec Ideal S2x2048x1024 .f32) : FVec Ideal S4096x1024 .f32 := shapeCast S4096x1024 x shapeCasts_S2x2048x1024_S4096x1024

/-- Row `2048 i + r` of the flattened input is row `r` of batch `i`. -/
theorem rows_at (x : FVec Ideal S2x2048x1024 .f32) (i : Fin 2) (r : Fin 2048) (e : Fin 1024) (h) :
    rows x (ix2 ⟨2048 * i.val + r.val, h⟩ e) = x (ix3 i r e) := by
  unfold rows
  pointwise

/-- A bias as a single row keeps its entries. -/
theorem bR_at (b : FVec Ideal S1024 .f32) (n : Fin 1024) : bR b (ix2 0 n) = b (ix1 n) := by
  unfold bR
  pointwise

/-- The reference's heads are the launch's. -/
theorem heads_eq (x : FVec Ideal S2x2048x1024 .f32) (w : FVec Ideal S1024x1024 .f32) (b : FVec Ideal S1024 .f32) :
    heads x w b = PROJ (rows x) w (bR b) := by
  funext j
  idx_vars j
  rw [heads_at]
  show _ = (∑ e : Fin 1024, rows x (ix2 ⟨2048 * j0.val + j2.val, _⟩ e) * w (ix2 ⟨64 * j1.val + j3.val, _⟩ e)) + bR b (ix2 0 ⟨64 * j1.val + j3.val, _⟩)
  exact congrArg₂ (· + ·) (Finset.sum_congr rfl fun e _ => congrArg (· * _) (rows_at x j0 j2 e _).symm) (bR_at b _).symm

/-- Heads of finite arrays are finite. -/
theorem heads_real (x : FVec Ideal S2x2048x1024 .f32) (w : FVec Ideal S1024x1024 .f32) (b : FVec Ideal S1024 .f32)
    (hx : ∀ j, IsReal (x j)) (hw : ∀ j, IsReal (w j)) (hb : ∀ j, IsReal (b j)) (i : Fin 2) (h : Fin 16) (r : Fin 2048) (d : Fin 64) :
    IsReal (heads x w b (ix4 i h r d)) := by
  rw [heads_at]
  exact (IsReal.sum fun e => (hx _).mul (hw _)).add (hb _)

/-- The word of eight. -/
theorem eight : Ideal.ofBits .f32 0x41000000#32 = ((8 : ℝ) : EReal) := by
  have h : Ideal.ofBits .f32 0x41000000#32 = ((8388608 : ℝ) : EReal) * (((2 : ℝ) ^ 20)⁻¹ : ℝ) := by simp [Ideal.ofBits, Ideal.ieee]
  rw [h, ← EReal.coe_mul]
  norm_num

/-- A dot of scaled queries, against the score. -/
theorem dot_scaled (q k : Fin 64 → EReal) :
    ∑ d, (q d * cq) * k d = c2 * Ideal.div (∑ d, q d * k d) (Ideal.ofBits .f32 0x41000000#32) := by
  have hc : (0 : ℝ) ≤ (1 / 8) * (Real.log 2)⁻¹ := mul_nonneg (by norm_num) c2_pos.le
  rw [eight, Ideal.div_coe (by norm_num), mul_comm c2, mul_assoc]
  have e : ((1 / 8 : ℝ) : EReal) * c2 = cq := (EReal.coe_mul _ _).symm
  rw [e, sum_mul_const _ cq (EReal.coe_nonneg.2 hc) (EReal.coe_ne_top _)]
  exact Finset.sum_congr rfl fun d _ => mul_right_comm _ _ _

/-- The reference's heads of weighted values are the launch's attention. -/
theorem att_eq (q k v : FVec Ideal S2x16x2048x64 .f32) (a : FVec Ideal S2x2048 .f32) (ha : ∀ j, a j = 1)
    (hq : ∀ i h r d, IsReal (q (ix4 i h r d))) (hk : ∀ i h r d, IsReal (k (ix4 i h r d))) :
    attOf (softOf (maskedOf (scoresOf q k) (seenOf a))) v = ATT q k v := by
  funext j
  idx_vars j
  revert j0 j1 j2 j3
  intro i h r d
  rw [att_at]
  have hm : ∀ t : Fin 2048, maskedOf (scoresOf q k) (seenOf a) (ix4 i h r t)
      = if t.val ≤ r.val then Ideal.div (∑ d : Fin 64, q (ix4 i h r d) * k (ix4 i h t d)) (Ideal.ofBits .f32 0x41000000#32) else ⊥ := by
    intro t
    rw [masked_at, seen_at a (fun i r => ha _), scores_at, Cert.ReferenceIdeal.Steps.ninf]
    by_cases ht : t.val ≤ r.val
    · rw [if_pos ht, if_pos ht]; rfl
    · rw [if_neg ht, if_neg ht]; rfl
  have hs : ∀ t : Fin 2048, t.val ≤ r.val → IsReal (maskedOf (scoresOf q k) (seenOf a) (ix4 i h r t)) := by
    intro t ht
    rw [hm, if_pos ht, eight, Ideal.div_coe (by norm_num)]
    exact (IsReal.sum fun d => (hq _ _ _ _).mul (hk _ _ _ _)).mul ⟨_, rfl⟩
  show _ = rowAtt (zb (headOf q i h) (headOf k i h) r.val) (wb (headOf v i h) d)
  refine Eq.trans ?_ (row_eq (fun t => maskedOf (scoresOf q k) (seenOf a) (ix4 i h r t)) (fun t => v (ix4 i h t d)) ?_ r (hs r le_rfl) _ _ ?_ ?_).symm
  · refine Finset.sum_congr rfl fun t _ => ?_
    rw [soft_at]
    simp only [exps_at, max_at]
  · intro t
    by_cases ht : t.val ≤ r.val
    · exact Or.inr (hs t ht)
    · refine Or.inl ?_
      show maskedOf (scoresOf q k) (seenOf a) (ix4 i h r t) = ⊥
      rw [hm, if_neg ht]
  · intro t
    show zb (headOf q i h) (headOf k i h) r.val t.val = c2 * maskedOf (scoresOf q k) (seenOf a) (ix4 i h r t)
    rw [hm]
    by_cases ht : t.val ≤ r.val
    · rw [if_pos ht, zb_in _ _ ht r.isLt, ← dot_scaled]
      rfl
    · rw [if_neg ht, zb_bot _ _ (by omega), c2_bot]
  · intro t
    show wb (headOf v i h) d t.val = v (ix4 i h t d)
    rw [wb_in _ _ t.isLt]
    rfl

/-- The reference's last projection is the launch's. -/
theorem joined_eq (a : FVec Ideal S2x16x2048x64 .f32) (w : FVec Ideal S1024x1024 .f32) (b : FVec Ideal S1024 .f32) :
    joined a w b = OUT a w (bR b) := by
  funext j
  idx_vars j
  rw [joined_at]
  show _ = (∑ e : Fin 1024, a (ix4 j0 ⟨e.val / 64, _⟩ j1 ⟨e.val % 64, _⟩) * w (ix2 j2 e)) + bR b (ix2 0 j2)
  rw [bR_at]

end Cert.Equation
end
-- ==== Proof.Pre.lean ====
module
public import proofs.«01_k».proof.Proof.Softmax
public import proofs.«01_k».proof.Proof.Gen.Pre_finite_unmasked
public import Idealize.ShloMosaic.Lib.ReduceAll
public import Idealize.ShloMosaic.Lib.IdealHost
public import Idealize.ShloMosaic.Lib.Pointwise
@[expose] public section
set_option maxRecDepth 16384
noncomputable section
open Idealize.ShloMosaic
namespace Cert.Pre_finite_unmasked.Meaning
open Cert.Pre_finite_unmasked Cert.Pre_finite_unmasked.Facts Cert.RowSum

/-- A truth value that is set. -/
theorem and_one {a b : BitVec 1} (h : IntOp.andi a b = 1#1) : a = 1#1 ∧ b = 1#1 := by
  revert a b; decide

/-- A number whose absolute value is below +∞ is finite. -/
theorem real_of_abs {x : EReal} (h : max x (-x) < ⊤) : IsReal x := by
  induction x with
  | bot => simp at h
  | coe a => exact ⟨a, rfl⟩
  | top => simp at h

/-- The comparison of an entry's absolute value with the word of +∞. -/
theorem of_lt (x : EReal) (h : Ideal.cmp .olt (max x (-x)) (Ideal.ofBits .f32 0x7F800000#32) = 1#1) : IsReal x := by
  rw [show Ideal.ofBits .f32 0x7F800000#32 = ⊤ by simp [Ideal.ofBits, Ideal.ieee]] at h
  refine real_of_abs ?_
  by_contra hn
  rw [show Ideal.cmp .olt (max x (-x)) ⊤ = BitVec.ofBool (decide (max x (-x) < ⊤)) from rfl, decide_eq_false hn] at h
  exact absurd h (by decide)

/-- The comparison of an entry with the word of one. -/
theorem of_eq (x : EReal) (h : Ideal.cmp .oeq x (Ideal.ofBits .f32 0x3F800000#32) = 1#1) : x = 1 := by
  rw [Ideal.ofBits_one_f32] at h
  by_contra hn
  rw [show Ideal.cmp .oeq x 1 = BitVec.ofBool (decide (x = 1)) from rfl, decide_eq_false hn] at h
  exact absurd h (by decide)

instance : Subsingleton S_.Idx := ⟨fun a b => funext fun i => i.elim0⟩

/-- What the precondition says, entry by entry. -/
theorem unpack (a0 : FVec Ideal S2x2048x1024 .f32) (a1 : FVec Ideal S2x2048 .f32) (a2 : FVec Ideal S1024x1024 .f32) (a3 : FVec Ideal S1024 .f32)
    (a4 : FVec Ideal S1024x1024 .f32) (a5 : FVec Ideal S1024 .f32) (a6 : FVec Ideal S1024x1024 .f32) (a7 : FVec Ideal S1024 .f32)
    (a8 : FVec Ideal S1024x1024 .f32) (a9 : FVec Ideal S1024 .f32) (a10 a11 : FVec Ideal S2x16x2048x64 .f32)
    (h : fn (F := Ideal) a0 a1 a2 a3 a4 a5 a6 a7 a8 a9 a10 a11 = fun _ => 1#1) :
    (∀ j, a1 j = 1) ∧ (∀ j, IsReal (a0 j)) ∧ (∀ j, IsReal (a2 j)) ∧ (∀ j, IsReal (a3 j)) ∧ (∀ j, IsReal (a4 j)) ∧ (∀ j, IsReal (a5 j)) := by
  have e := congrFun h ix0
  dsimp only [fn, fn_part1] at e
  obtain ⟨e, e5⟩ := and_one e
  obtain ⟨e, e4⟩ := and_one e
  obtain ⟨e, e3⟩ := and_one e
  obtain ⟨e, e2⟩ := and_one e
  obtain ⟨e1, e0⟩ := and_one e
  exact ⟨fun j => of_eq _ (Host.reduce_andi_all _ _ _ _ _ e1 j), fun j => of_lt _ (Host.reduce_andi_all _ _ _ _ _ e0 j),
    fun j => of_lt _ (Host.reduce_andi_all _ _ _ _ _ e2 j), fun j => of_lt _ (Host.reduce_andi_all _ _ _ _ _ e3 j),
    fun j => of_lt _ (Host.reduce_andi_all _ _ _ _ _ e4 j), fun j => of_lt _ (Host.reduce_andi_all _ _ _ _ _ e5 j)⟩

end Cert.Pre_finite_unmasked.Meaning
end
-- ==== Proof.Claims.lean ====
module
public import proofs.«01_k».proof.Defs
public import proofs.«01_k».proof.Proof.Equation
public import proofs.«01_k».proof.Proof.RefRun
public import proofs.«01_k».proof.Proof.Pre
public import proofs.«01_k».proof.Proof.Gen.Kernel.Frame
public import proofs.«01_k».proof.Proof.Gen.KernelIdeal.Frame
public import Idealize.ShloMosaic.Lib.Quiescent
@[expose] public section
set_option maxRecDepth 16384
noncomputable section
open Idealize.ShloMosaic Idealize.ShloMosaic.TcCoe Idealize.SL.Sem
namespace Cert.Claims
open Cert.RowSum Cert.ReferenceIdeal.Steps Cert.KernelIdeal.Value

/-- The kernel runs, faults nowhere, leaves its arguments as they were and every semaphore at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same under the precondition of the value claim. -/
theorem frame_ideal_pre : Cert.quiescent_KernelIdeal_pre_finite_unmasked := fun m ρ _ => Cert.KernelIdeal.Gen.frame m ρ

/-- The reference runs and leaves its arguments as they were; it has no semaphores. -/
theorem frame_ref : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Steps.run (F := Ideal) m ρ)

/-- The same under the precondition of the value claim. -/
theorem frame_ref_pre : Cert.quiescent_ReferenceIdeal_pre_finite_unmasked := fun m ρ _ => frame_ref m ρ trivial

/-- The one named constant: the scale of the queries, an eighth of the base-two logarithm of e. -/
theorem preserves : Cert.preserves_Kernel_KernelIdeal :=
  IdealRules.named_const.statement Cert.KernelIdeal.κ "qscale" .f32 0x3E38AA3B#32 (((1 / 8) * (Real.log 2)⁻¹ : ℝ) : EReal) rfl

/-- The reference's result, of any arrays of which the mask is all ones and the scores' parts are finite, is the launches' result. -/
theorem result_eq (x : FVec Ideal Cert.KernelIdeal.S2x2048x1024 .f32) (a : FVec Ideal Cert.KernelIdeal.S2x2048 .f32)
    (wq wk wv wo : FVec Ideal Cert.KernelIdeal.S1024x1024 .f32) (bq bk bv bo : FVec Ideal Cert.KernelIdeal.S1024 .f32)
    (ck cv : FVec Ideal Cert.KernelIdeal.S2x16x2048x64 .f32) (ha : ∀ j, a j = 1) (hx : ∀ j, IsReal (x j))
    (hwq : ∀ j, IsReal (wq j)) (hbq : ∀ j, IsReal (bq j)) (hwk : ∀ j, IsReal (wk j)) (hbk : ∀ j, IsReal (bk j)) :
    joined (attOf (softOf (maskedOf (scoresOf (heads x wq bq) (cached ck (heads x wk bk))) (seenOf a))) (cached cv (heads x wv bv))) wo bo
      = OUT (ATT (PROJ (Cert.Equation.rows x) wq (bR bq)) (PROJ (Cert.Equation.rows x) wk (bR bk)) (PROJ (Cert.Equation.rows x) wv (bR bv))) wo (bR bo) := by
  rw [cached_eq, cached_eq, Cert.Equation.att_eq _ _ _ a ha (Cert.Equation.heads_real x wq bq hx hwq hbq) (Cert.Equation.heads_real x wk bk hx hwk hbk),
    Cert.Equation.joined_eq, Cert.Equation.heads_eq, Cert.Equation.heads_eq, Cert.Equation.heads_eq]

/-- The reference's cache of keys or values is the first launch's array. -/
theorem cache_eq (x : FVec Ideal Cert.KernelIdeal.S2x2048x1024 .f32) (w : FVec Ideal Cert.KernelIdeal.S1024x1024 .f32)
    (b : FVec Ideal Cert.KernelIdeal.S1024 .f32) (c : FVec Ideal Cert.KernelIdeal.S2x16x2048x64 .f32) :
    cached c (heads x w b) = PROJ (Cert.Equation.rows x) w (bR b) := by
  rw [cached_eq, Cert.Equation.heads_eq]

/-- All three results of the kernel are the reference's, where the mask is all ones and what the scores are made of is finite. -/
theorem algebraic : Cert.algebraic_KernelIdeal_ReferenceIdeal_pre_finite_unmasked := by
  intro m g m' g' hP hA
  refine ⟨oV m, kV m, vV m, Cert.KernelIdeal.Value.run m g, ?_⟩
  refine (θ_run Cert.ReferenceIdeal.defs _ _).mono (fun _ h c => ?_) (Cert.ReferenceIdeal.Steps.run (F := Ideal) m' g')
  obtain ⟨e0, e1, e2, e3, e4, e5, e6, e7, e8, e9, e10, e11⟩ := hA c
  obtain ⟨ha, hx, hwq, hbq, hwk, hbk⟩ := Cert.Pre_finite_unmasked.Meaning.unpack _ _ _ _ _ _ _ _ _ _ _ _ (hP c)
  obtain ⟨h0, h1, h2, hr⟩ := h c
  refine ⟨h0.trans ?_, h1.trans ?_, h2.trans ?_, hr⟩
  · rw [e0, e1, e2, e3, e4, e5, e6, e7, e8, e9, e10, e11]
    exact result_eq _ _ _ _ _ _ _ _ _ _ _ _ ha hx hwq hbq hwk hbk
  · rw [e0, e4, e5, e10]
    exact cache_eq _ _ _ _
  · rw [e0, e6, e7, e11]
    exact cache_eq _ _ _ _

end Cert.Claims
end
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_unmasked
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_finite_unmasked.Gen.facts,
    Cert.Claims.frame_kernel, Cert.Claims.frame_ideal, Cert.Claims.frame_ideal_pre, Cert.Claims.frame_ref,
    Cert.Claims.frame_ref_pre, Cert.Claims.preserves, Cert.Claims.algebraic⟩

end Cert.Proof

end
